-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x64x16384 : Shape := ⟨3, ![8, 64, 16384]⟩
abbrev S8x16384x3 : Shape := ⟨3, ![8, 16384, 3]⟩
abbrev S8x4096x3 : Shape := ⟨3, ![8, 4096, 3]⟩
abbrev S8x4096x16 : Shape := ⟨3, ![8, 4096, 16]⟩
abbrev S_ : Shape := ⟨0, ![]⟩

class Facts : Prop where
  bcast_S_S8x4096x16 : S_.BroadcastsInDim S8x4096x16 (![] : Fin 0 → Fin S8x4096x16.rank)
  reducesTo_S8x4096x16_S_d0_1_2 : S8x4096x16.ReducesTo [0, 1, 2] S_
  h_S_ : 0 < S_.numel

variable [Facts]

def fn {F : FTy → Type} [FloatOps F] (main_arg0 : FVec F S8x64x16384 .f32) (main_arg1 : FVec F S8x16384x3 .f32) (main_arg2 : FVec F S8x4096x3 .f32) (main_arg3 : IVec S8x4096x16 32) : IVec S_ 1 :=
  let main_c : IVec S_ 32 := constantI S_ 32 0#32
  let main_v0 : IVec S8x4096x16 32 := broadcastInDim S8x4096x16 ![] bcast_S_S8x4096x16 main_c
  let main_v1 : IVec S8x4096x16 1 := cmpi .sge main_arg3 main_v0
  let main_c_0 : IVec S_ 32 := constantI S_ 32 16384#32
  let main_v2 : IVec S8x4096x16 32 := broadcastInDim S8x4096x16 ![] bcast_S_S8x4096x16 main_c_0
  let main_v3 : IVec S8x4096x16 1 := cmpi .slt main_arg3 main_v2
  let main_v4 : IVec S8x4096x16 1 := andi main_v1 main_v3
  let main_c_1 : IVec S_ 1 := constantI S_ 1 1#1
  let main_v5 : IVec S_ 1 := (fun x v => Host.reduce IntOp.andi x v reducesTo_S8x4096x16_S_d0_1_2 h_S_) main_v4 main_c_1
  main_v5
-- ==== Kernel.lean ====
abbrev S8x64x16384 : Shape := ⟨3, ![8, 64, 16384]⟩
abbrev S8x16384x3 : Shape := ⟨3, ![8, 16384, 3]⟩
abbrev S8x4096x3 : Shape := ⟨3, ![8, 4096, 3]⟩
abbrev S8x4096x16 : Shape := ⟨3, ![8, 4096, 16]⟩
abbrev S512x16384 : Shape := ⟨2, ![512, 16384]⟩
abbrev S8x16x4096 : Shape := ⟨3, ![8, 16, 4096]⟩
abbrev S512x4096 : Shape := ⟨2, ![512, 4096]⟩
abbrev S16x4096 : Shape := ⟨2, ![16, 4096]⟩
abbrev S16384 : Shape := ⟨1, ![16384]⟩
abbrev S4096 : Shape := ⟨1, ![4096]⟩
abbrev S_ : Shape := ⟨0, ![]⟩
abbrev S1x16x4096 : Shape := ⟨3, ![1, 16, 4096]⟩
abbrev S1x16384 : Shape := ⟨2, ![1, 16384]⟩
abbrev S16 : Shape := ⟨1, ![16]⟩
abbrev S1x16 : Shape := ⟨2, ![1, 16]⟩
abbrev S1x4096 : Shape := ⟨2, ![1, 4096]⟩
abbrev S8x64x4096 : Shape := ⟨3, ![8, 64, 4096]⟩

abbrev nBuf : Table → Nat
  | .hbm => 8
  | .local .scVector .vmem => 3
  | _ => 0

abbrev bufTy : (tb : Table) → Fin (nBuf tb) → BufTy
  | .hbm, ⟨0, _⟩ => ⟨S8x64x16384, .f32⟩
  | .hbm, ⟨1, _⟩ => ⟨S8x16384x3, .f32⟩
  | .hbm, ⟨2, _⟩ => ⟨S8x4096x3, .f32⟩
  | .hbm, ⟨3, _⟩ => ⟨S8x4096x16, .i32⟩
  | .hbm, ⟨4, _⟩ => ⟨S512x16384, .f32⟩
  | .hbm, ⟨5, _⟩ => ⟨S8x16x4096, .i32⟩
  | .hbm, ⟨6, _⟩ => ⟨S512x4096, .f32⟩
  | .hbm, ⟨7, _⟩ => ⟨S8x64x4096, .f32⟩
  | .local .scVector .vmem, ⟨0, _⟩ => ⟨S16x4096, .i32⟩
  | .local .scVector .vmem, ⟨1, _⟩ => ⟨S16384, .f32⟩
  | .local .scVector .vmem, ⟨2, _⟩ => ⟨S4096, .f32⟩
  | _, _ => ⟨S8x64x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_102_r0 : BitVec 32 := 0#32
  let c0_i32_103_r0 : BitVec 32 := 0#32
  ![v18.toNat, 0, 0]
def k0_off2 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v19 : BitVec 32 := Scalar.muli v1 c16_i32
  let v20 : BitVec 32 := Scalar.addi v19 c0_i32_4
  let c0_i32_102_r1 : BitVec 32 := 0#32
  ![v20.toNat, 0]
@[reducible] def k0_t1_loop : Scf.Loop 32 :=
  let c0_i32_6 : BitVec 32 := 0#32
  let c256_i32 : BitVec 32 := 256#32
  let v21 : BitVec 32 := Scalar.addi c0_i32_6 c256_i32
  let c1_i32_7 : BitVec 32 := 1#32
  ⟨c0_i32_6, v21, c1_i32_7⟩
def k0_mult1 (k0_t1 : Fin k0_t1_loop.trips) : BitVec 32 :=
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  v83
def k0_off3 (k0_t1 : Fin k0_t1_loop.trips) : Fin 2 → Nat :=
  let c0_i32_103 : BitVec 32 := 0#32
  let v85 : Index := Scalar.indexCast c0_i32_103
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v86 : Index := Scalar.indexCast v84
  ![0, v86.toNat]

def k0_chk1 (v87 : IVec S16 32) : Prop :=
  (∀ a x, ((![v87] : Fin 1 → IVec S16 32) a x).toNat < S16384.size a)
theorem k0_idx1_inb : ∀ (v87 : IVec S16 32) (k0_hw1 : k0_chk1 v87), ∀ a x, ((![v87] : Fin 1 → IVec S16 32) a x).toNat < S16384.size a := fun v87 k0_hw1 => k0_hw1
def k0_off4 (k0_t1 : Fin k0_t1_loop.trips) : Fin 2 → Nat :=
  let c1_i32_104 : BitVec 32 := 1#32
  let v89 : Index := Scalar.indexCast c1_i32_104
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v90 : Index := Scalar.indexCast v84
  ![1, v90.toNat]

def k0_chk2 (v91 : IVec S16 32) : Prop :=
  (∀ a x, ((![v91] : Fin 1 → IVec S16 32) a x).toNat < S16384.size a)
theorem k0_idx2_inb : ∀ (v91 : IVec S16 32) (k0_hw2 : k0_chk2 v91), ∀ a x, ((![v91] : Fin 1 → IVec S16 32) a x).toNat < S16384.size a := fun v91 k0_hw2 => k0_hw2
def k0_off5 (k0_t1 : Fin k0_t1_loop.trips) : Fin 2 → Nat :=
  let c2_i32_105 : BitVec 32 := 2#32
  let v94 : Index := Scalar.indexCast c2_i32_105
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v95 : Index := Scalar.indexCast v84
  ![2, v95.toNat]

def k0_chk3 (v96 : IVec S16 32) : Prop :=
  (∀ a x, ((![v96] : Fin 1 → IVec S16 32) a x).toNat < S16384.size a)
theorem k0_idx3_inb : ∀ (v96 : IVec S16 32) (k0_hw3 : k0_chk3 v96), ∀ a x, ((![v96] : Fin 1 → IVec S16 32) a x).toNat < S16384.size a := fun v96 k0_hw3 => k0_hw3
def k0_off6 (k0_t1 : Fin k0_t1_loop.trips) : Fin 2 → Nat :=
  let c3_i32_106 : BitVec 32 := 3#32
  let v99 : Index := Scalar.indexCast c3_i32_106
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v100 : Index := Scalar.indexCast v84
  ![3, v100.toNat]

def k0_chk4 (v101 : IVec S16 32) : Prop :=
  (∀ a x, ((![v101] : Fin 1 → IVec S16 32) a x).toNat < S16384.size a)
theorem k0_idx4_inb : ∀ (v101 : IVec S16 32) (k0_hw4 : k0_chk4 v101), ∀ a x, ((![v101] : Fin 1 → IVec S16 32) a x).toNat < S16384.size a := fun v101 k0_hw4 => k0_hw4
def k0_off7 (k0_t1 : Fin k0_t1_loop.trips) : Fin 2 → Nat :=
  let c4_i32_107 : BitVec 32 := 4#32
  let v104 : Index := Scalar.indexCast c4_i32_107
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v105 : Index := Scalar.indexCast v84
  ![4, v105.toNat]

def k0_chk5 (v106 : IVec S16 32) : Prop :=
  (∀ a x, ((![v106] : Fin 1 → IVec S16 32) a x).toNat < S16384.size a)
theorem k0_idx5_inb : ∀ (v106 : IVec S16 32) (k0_hw5 : k0_chk5 v106), ∀ a x, ((![v106] : Fin 1 → IVec S16 32) a x).toNat < S16384.size a := fun v106 k0_hw5 => k0_hw5
def k0_off8 (k0_t1 : Fin k0_t1_loop.trips) : Fin 2 → Nat :=
  let c5_i32_108 : BitVec 32 := 5#32
  let v109 : Index := Scalar.indexCast c5_i32_108
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v110 : Index := Scalar.indexCast v84
  ![5, v110.toNat]

def k0_chk6 (v111 : IVec S16 32) : Prop :=
  (∀ a x, ((![v111] : Fin 1 → IVec S16 32) a x).toNat < S16384.size a)
theorem k0_idx6_inb : ∀ (v111 : IVec S16 32) (k0_hw6 : k0_chk6 v111), ∀ a x, ((![v111] : Fin 1 → IVec S16 32) a x).toNat < S16384.size a := fun v111 k0_hw6 => k0_hw6
def k0_off9 (k0_t1 : Fin k0_t1_loop.trips) : Fin 2 → Nat :=
  let c6_i32_109 : BitVec 32 := 6#32
  let v114 : Index := Scalar.indexCast c6_i32_109
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v115 : Index := Scalar.indexCast v84
  ![6, v115.toNat]

def k0_chk7 (v116 : IVec S16 32) : Prop :=
  (∀ a x, ((![v116] : Fin 1 → IVec S16 32) a x).toNat < S16384.size a)
theorem k0_idx7_inb : ∀ (v116 : IVec S16 32) (k0_hw7 : k0_chk7 v116), ∀ a x, ((![v116] : Fin 1 → IVec S16 32) a x).toNat < S16384.size a := fun v116 k0_hw7 => k0_hw7
def k0_off10 (k0_t1 : Fin k0_t1_loop.trips) : Fin 2 → Nat :=
  let c7_i32_110 : BitVec 32 := 7#32
  let v119 : Index := Scalar.indexCast c7_i32_110
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v120 : Index := Scalar.indexCast v84
  ![7, v120.toNat]

def k0_chk8 (v121 : IVec S16 32) : Prop :=
  (∀ a x, ((![v121] : Fin 1 → IVec S16 32) a x).toNat < S16384.size a)
theorem k0_idx8_inb : ∀ (v121 : IVec S16 32) (k0_hw8 : k0_chk8 v121), ∀ a x, ((![v121] : Fin 1 → IVec S16 32) a x).toNat < S16384.size a := fun v121 k0_hw8 => k0_hw8
def k0_off11 (k0_t1 : Fin k0_t1_loop.trips) : Fin 2 → Nat :=
  let c8_i32_111 : BitVec 32 := 8#32
  let v124 : Index := Scalar.indexCast c8_i32_111
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v125 : Index := Scalar.indexCast v84
  ![8, v125.toNat]

def k0_chk9 (v126 : IVec S16 32) : Prop :=
  (∀ a x, ((![v126] : Fin 1 → IVec S16 32) a x).toNat < S16384.size a)
theorem k0_idx9_inb : ∀ (v126 : IVec S16 32) (k0_hw9 : k0_chk9 v126), ∀ a x, ((![v126] : Fin 1 → IVec S16 32) a x).toNat < S16384.size a := fun v126 k0_hw9 => k0_hw9
def k0_off12 (k0_t1 : Fin k0_t1_loop.trips) : Fin 2 → Nat :=
  let c9_i32_112 : BitVec 32 := 9#32
  let v129 : Index := Scalar.indexCast c9_i32_112
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v130 : Index := Scalar.indexCast v84
  ![9, v130.toNat]

def k0_chk10 (v131 : IVec S16 32) : Prop :=
  (∀ a x, ((![v131] : Fin 1 → IVec S16 32) a x).toNat < S16384.size a)
theorem k0_idx10_inb : ∀ (v131 : IVec S16 32) (k0_hw10 : k0_chk10 v131), ∀ a x, ((![v131] : Fin 1 → IVec S16 32) a x).toNat < S16384.size a := fun v131 k0_hw10 => k0_hw10
def k0_off13 (k0_t1 : Fin k0_t1_loop.trips) : Fin 2 → Nat :=
  let c10_i32_113 : BitVec 32 := 10#32
  let v134 : Index := Scalar.indexCast c10_i32_113
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v135 : Index := Scalar.indexCast v84
  ![10, v135.toNat]

def k0_chk11 (v136 : IVec S16 32) : Prop :=
  (∀ a x, ((![v136] : Fin 1 → IVec S16 32) a x).toNat < S16384.size a)
theorem k0_idx11_inb : ∀ (v136 : IVec S16 32) (k0_hw11 : k0_chk11 v136), ∀ a x, ((![v136] : Fin 1 → IVec S16 32) a x).toNat < S16384.size a := fun v136 k0_hw11 => k0_hw11
def k0_off14 (k0_t1 : Fin k0_t1_loop.trips) : Fin 2 → Nat :=
  let c11_i32_114 : BitVec 32 := 11#32
  let v139 : Index := Scalar.indexCast c11_i32_114
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v140 : Index := Scalar.indexCast v84
  ![11, v140.toNat]

def k0_chk12 (v141 : IVec S16 32) : Prop :=
  (∀ a x, ((![v141] : Fin 1 → IVec S16 32) a x).toNat < S16384.size a)
theorem k0_idx12_inb : ∀ (v141 : IVec S16 32) (k0_hw12 : k0_chk12 v141), ∀ a x, ((![v141] : Fin 1 → IVec S16 32) a x).toNat < S16384.size a := fun v141 k0_hw12 => k0_hw12
def k0_off15 (k0_t1 : Fin k0_t1_loop.trips) : Fin 2 → Nat :=
  let c12_i32_115 : BitVec 32 := 12#32
  let v144 : Index := Scalar.indexCast c12_i32_115
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v145 : Index := Scalar.indexCast v84
  ![12, v145.toNat]

def k0_chk13 (v146 : IVec S16 32) : Prop :=
  (∀ a x, ((![v146] : Fin 1 → IVec S16 32) a x).toNat < S16384.size a)
theorem k0_idx13_inb : ∀ (v146 : IVec S16 32) (k0_hw13 : k0_chk13 v146), ∀ a x, ((![v146] : Fin 1 → IVec S16 32) a x).toNat < S16384.size a := fun v146 k0_hw13 => k0_hw13
def k0_off16 (k0_t1 : Fin k0_t1_loop.trips) : Fin 2 → Nat :=
  let c13_i32_116 : BitVec 32 := 13#32
  let v149 : Index := Scalar.indexCast c13_i32_116
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v150 : Index := Scalar.indexCast v84
  ![13, v150.toNat]

def k0_chk14 (v151 : IVec S16 32) : Prop :=
  (∀ a x, ((![v151] : Fin 1 → IVec S16 32) a x).toNat < S16384.size a)
theorem k0_idx14_inb : ∀ (v151 : IVec S16 32) (k0_hw14 : k0_chk14 v151), ∀ a x, ((![v151] : Fin 1 → IVec S16 32) a x).toNat < S16384.size a := fun v151 k0_hw14 => k0_hw14
def k0_off17 (k0_t1 : Fin k0_t1_loop.trips) : Fin 2 → Nat :=
  let c14_i32_117 : BitVec 32 := 14#32
  let v154 : Index := Scalar.indexCast c14_i32_117
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v155 : Index := Scalar.indexCast v84
  ![14, v155.toNat]

def k0_chk15 (v156 : IVec S16 32) : Prop :=
  (∀ a x, ((![v156] : Fin 1 → IVec S16 32) a x).toNat < S16384.size a)
theorem k0_idx15_inb : ∀ (v156 : IVec S16 32) (k0_hw15 : k0_chk15 v156), ∀ a x, ((![v156] : Fin 1 → IVec S16 32) a x).toNat < S16384.size a := fun v156 k0_hw15 => k0_hw15
def k0_off18 (k0_t1 : Fin k0_t1_loop.trips) : Fin 2 → Nat :=
  let c15_i32_118 : BitVec 32 := 15#32
  let v159 : Index := Scalar.indexCast c15_i32_118
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v160 : Index := Scalar.indexCast v84
  ![15, v160.toNat]

def k0_chk16 (v161 : IVec S16 32) : Prop :=
  (∀ a x, ((![v161] : Fin 1 → IVec S16 32) a x).toNat < S16384.size a)
theorem k0_idx16_inb : ∀ (v161 : IVec S16 32) (k0_hw16 : k0_chk16 v161), ∀ a x, ((![v161] : Fin 1 → IVec S16 32) a x).toNat < S16384.size a := fun v161 k0_hw16 => k0_hw16
def k0_off19 (k0_t1 : Fin k0_t1_loop.trips) : Fin 1 → Nat :=
  let c0_i32_6 : BitVec 32 := 0#32
  let c1_i32_7 : BitVec 32 := 1#32
  let arg8 : BitVec 32 := Scf.iv c0_i32_6 c1_i32_7 k0_t1
  let c16_i32_102 : BitVec 32 := 16#32
  let v83 : BitVec 32 := Scalar.muli arg8 c16_i32_102
  let v84 : BitVec 32 := v83
  let v164 : Index := Scalar.indexCast v84
  ![v164.toNat]
def k0_off20 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v19 : BitVec 32 := Scalar.muli v1 c16_i32
  let v20 : BitVec 32 := Scalar.addi v19 c0_i32_4
  let c0_i32_102_r2 : BitVec 32 := 0#32
  ![v20.toNat, 0]
@[reducible] def k0_t2_loop : Scf.Loop 32 :=
  let c0_i32_12 : BitVec 32 := 0#32
  let c256_i32_13 : BitVec 32 := 256#32
  let v25 : BitVec 32 := Scalar.addi c0_i32_12 c256_i32_13
  let c1_i32_14 : BitVec 32 := 1#32
  ⟨c0_i32_12, v25, c1_i32_14⟩
def k0_mult2 (k0_t2 : Fin k0_t2_loop.trips) : BitVec 32 :=
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  v83
def k0_off21 (k0_t2 : Fin k0_t2_loop.trips) : Fin 2 → Nat :=
  let c0_i32_103 : BitVec 32 := 0#32
  let v85 : Index := Scalar.indexCast c0_i32_103
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v86 : Index := Scalar.indexCast v84
  ![0, v86.toNat]

def k0_chk17 (v87 : IVec S16 32) : Prop :=
  (∀ a x, ((![v87] : Fin 1 → IVec S16 32) a x).toNat < S16384.size a)
theorem k0_idx17_inb : ∀ (v87 : IVec S16 32) (k0_hw17 : k0_chk17 v87), ∀ a x, ((![v87] : Fin 1 → IVec S16 32) a x).toNat < S16384.size a := fun v87 k0_hw17 => k0_hw17
def k0_off22 (k0_t2 : Fin k0_t2_loop.trips) : Fin 2 → Nat :=
  let c1_i32_104 : BitVec 32 := 1#32
  let v89 : Index := Scalar.indexCast c1_i32_104
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v90 : Index := Scalar.indexCast v84
  ![1, v90.toNat]

def k0_chk18 (v91 : IVec S16 32) : Prop :=
  (∀ a x, ((![v91] : Fin 1 → IVec S16 32) a x).toNat < S16384.size a)
theorem k0_idx18_inb : ∀ (v91 : IVec S16 32) (k0_hw18 : k0_chk18 v91), ∀ a x, ((![v91] : Fin 1 → IVec S16 32) a x).toNat < S16384.size a := fun v91 k0_hw18 => k0_hw18
def k0_off23 (k0_t2 : Fin k0_t2_loop.trips) : Fin 2 → Nat :=
  let c2_i32_105 : BitVec 32 := 2#32
  let v94 : Index := Scalar.indexCast c2_i32_105
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v95 : Index := Scalar.indexCast v84
  ![2, v95.toNat]

def k0_chk19 (v96 : IVec S16 32) : Prop :=
  (∀ a x, ((![v96] : Fin 1 → IVec S16 32) a x).toNat < S16384.size a)
theorem k0_idx19_inb : ∀ (v96 : IVec S16 32) (k0_hw19 : k0_chk19 v96), ∀ a x, ((![v96] : Fin 1 → IVec S16 32) a x).toNat < S16384.size a := fun v96 k0_hw19 => k0_hw19
def k0_off24 (k0_t2 : Fin k0_t2_loop.trips) : Fin 2 → Nat :=
  let c3_i32_106 : BitVec 32 := 3#32
  let v99 : Index := Scalar.indexCast c3_i32_106
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v100 : Index := Scalar.indexCast v84
  ![3, v100.toNat]

def k0_chk20 (v101 : IVec S16 32) : Prop :=
  (∀ a x, ((![v101] : Fin 1 → IVec S16 32) a x).toNat < S16384.size a)
theorem k0_idx20_inb : ∀ (v101 : IVec S16 32) (k0_hw20 : k0_chk20 v101), ∀ a x, ((![v101] : Fin 1 → IVec S16 32) a x).toNat < S16384.size a := fun v101 k0_hw20 => k0_hw20
def k0_off25 (k0_t2 : Fin k0_t2_loop.trips) : Fin 2 → Nat :=
  let c4_i32_107 : BitVec 32 := 4#32
  let v104 : Index := Scalar.indexCast c4_i32_107
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v105 : Index := Scalar.indexCast v84
  ![4, v105.toNat]

def k0_chk21 (v106 : IVec S16 32) : Prop :=
  (∀ a x, ((![v106] : Fin 1 → IVec S16 32) a x).toNat < S16384.size a)
theorem k0_idx21_inb : ∀ (v106 : IVec S16 32) (k0_hw21 : k0_chk21 v106), ∀ a x, ((![v106] : Fin 1 → IVec S16 32) a x).toNat < S16384.size a := fun v106 k0_hw21 => k0_hw21
def k0_off26 (k0_t2 : Fin k0_t2_loop.trips) : Fin 2 → Nat :=
  let c5_i32_108 : BitVec 32 := 5#32
  let v109 : Index := Scalar.indexCast c5_i32_108
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v110 : Index := Scalar.indexCast v84
  ![5, v110.toNat]

def k0_chk22 (v111 : IVec S16 32) : Prop :=
  (∀ a x, ((![v111] : Fin 1 → IVec S16 32) a x).toNat < S16384.size a)
theorem k0_idx22_inb : ∀ (v111 : IVec S16 32) (k0_hw22 : k0_chk22 v111), ∀ a x, ((![v111] : Fin 1 → IVec S16 32) a x).toNat < S16384.size a := fun v111 k0_hw22 => k0_hw22
def k0_off27 (k0_t2 : Fin k0_t2_loop.trips) : Fin 2 → Nat :=
  let c6_i32_109 : BitVec 32 := 6#32
  let v114 : Index := Scalar.indexCast c6_i32_109
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v115 : Index := Scalar.indexCast v84
  ![6, v115.toNat]

def k0_chk23 (v116 : IVec S16 32) : Prop :=
  (∀ a x, ((![v116] : Fin 1 → IVec S16 32) a x).toNat < S16384.size a)
theorem k0_idx23_inb : ∀ (v116 : IVec S16 32) (k0_hw23 : k0_chk23 v116), ∀ a x, ((![v116] : Fin 1 → IVec S16 32) a x).toNat < S16384.size a := fun v116 k0_hw23 => k0_hw23
def k0_off28 (k0_t2 : Fin k0_t2_loop.trips) : Fin 2 → Nat :=
  let c7_i32_110 : BitVec 32 := 7#32
  let v119 : Index := Scalar.indexCast c7_i32_110
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v120 : Index := Scalar.indexCast v84
  ![7, v120.toNat]

def k0_chk24 (v121 : IVec S16 32) : Prop :=
  (∀ a x, ((![v121] : Fin 1 → IVec S16 32) a x).toNat < S16384.size a)
theorem k0_idx24_inb : ∀ (v121 : IVec S16 32) (k0_hw24 : k0_chk24 v121), ∀ a x, ((![v121] : Fin 1 → IVec S16 32) a x).toNat < S16384.size a := fun v121 k0_hw24 => k0_hw24
def k0_off29 (k0_t2 : Fin k0_t2_loop.trips) : Fin 2 → Nat :=
  let c8_i32_111 : BitVec 32 := 8#32
  let v124 : Index := Scalar.indexCast c8_i32_111
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v125 : Index := Scalar.indexCast v84
  ![8, v125.toNat]

def k0_chk25 (v126 : IVec S16 32) : Prop :=
  (∀ a x, ((![v126] : Fin 1 → IVec S16 32) a x).toNat < S16384.size a)
theorem k0_idx25_inb : ∀ (v126 : IVec S16 32) (k0_hw25 : k0_chk25 v126), ∀ a x, ((![v126] : Fin 1 → IVec S16 32) a x).toNat < S16384.size a := fun v126 k0_hw25 => k0_hw25
def k0_off30 (k0_t2 : Fin k0_t2_loop.trips) : Fin 2 → Nat :=
  let c9_i32_112 : BitVec 32 := 9#32
  let v129 : Index := Scalar.indexCast c9_i32_112
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v130 : Index := Scalar.indexCast v84
  ![9, v130.toNat]

def k0_chk26 (v131 : IVec S16 32) : Prop :=
  (∀ a x, ((![v131] : Fin 1 → IVec S16 32) a x).toNat < S16384.size a)
theorem k0_idx26_inb : ∀ (v131 : IVec S16 32) (k0_hw26 : k0_chk26 v131), ∀ a x, ((![v131] : Fin 1 → IVec S16 32) a x).toNat < S16384.size a := fun v131 k0_hw26 => k0_hw26
def k0_off31 (k0_t2 : Fin k0_t2_loop.trips) : Fin 2 → Nat :=
  let c10_i32_113 : BitVec 32 := 10#32
  let v134 : Index := Scalar.indexCast c10_i32_113
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v135 : Index := Scalar.indexCast v84
  ![10, v135.toNat]

def k0_chk27 (v136 : IVec S16 32) : Prop :=
  (∀ a x, ((![v136] : Fin 1 → IVec S16 32) a x).toNat < S16384.size a)
theorem k0_idx27_inb : ∀ (v136 : IVec S16 32) (k0_hw27 : k0_chk27 v136), ∀ a x, ((![v136] : Fin 1 → IVec S16 32) a x).toNat < S16384.size a := fun v136 k0_hw27 => k0_hw27
def k0_off32 (k0_t2 : Fin k0_t2_loop.trips) : Fin 2 → Nat :=
  let c11_i32_114 : BitVec 32 := 11#32
  let v139 : Index := Scalar.indexCast c11_i32_114
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v140 : Index := Scalar.indexCast v84
  ![11, v140.toNat]

def k0_chk28 (v141 : IVec S16 32) : Prop :=
  (∀ a x, ((![v141] : Fin 1 → IVec S16 32) a x).toNat < S16384.size a)
theorem k0_idx28_inb : ∀ (v141 : IVec S16 32) (k0_hw28 : k0_chk28 v141), ∀ a x, ((![v141] : Fin 1 → IVec S16 32) a x).toNat < S16384.size a := fun v141 k0_hw28 => k0_hw28
def k0_off33 (k0_t2 : Fin k0_t2_loop.trips) : Fin 2 → Nat :=
  let c12_i32_115 : BitVec 32 := 12#32
  let v144 : Index := Scalar.indexCast c12_i32_115
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v145 : Index := Scalar.indexCast v84
  ![12, v145.toNat]

def k0_chk29 (v146 : IVec S16 32) : Prop :=
  (∀ a x, ((![v146] : Fin 1 → IVec S16 32) a x).toNat < S16384.size a)
theorem k0_idx29_inb : ∀ (v146 : IVec S16 32) (k0_hw29 : k0_chk29 v146), ∀ a x, ((![v146] : Fin 1 → IVec S16 32) a x).toNat < S16384.size a := fun v146 k0_hw29 => k0_hw29
def k0_off34 (k0_t2 : Fin k0_t2_loop.trips) : Fin 2 → Nat :=
  let c13_i32_116 : BitVec 32 := 13#32
  let v149 : Index := Scalar.indexCast c13_i32_116
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v150 : Index := Scalar.indexCast v84
  ![13, v150.toNat]

def k0_chk30 (v151 : IVec S16 32) : Prop :=
  (∀ a x, ((![v151] : Fin 1 → IVec S16 32) a x).toNat < S16384.size a)
theorem k0_idx30_inb : ∀ (v151 : IVec S16 32) (k0_hw30 : k0_chk30 v151), ∀ a x, ((![v151] : Fin 1 → IVec S16 32) a x).toNat < S16384.size a := fun v151 k0_hw30 => k0_hw30
def k0_off35 (k0_t2 : Fin k0_t2_loop.trips) : Fin 2 → Nat :=
  let c14_i32_117 : BitVec 32 := 14#32
  let v154 : Index := Scalar.indexCast c14_i32_117
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v155 : Index := Scalar.indexCast v84
  ![14, v155.toNat]

def k0_chk31 (v156 : IVec S16 32) : Prop :=
  (∀ a x, ((![v156] : Fin 1 → IVec S16 32) a x).toNat < S16384.size a)
theorem k0_idx31_inb : ∀ (v156 : IVec S16 32) (k0_hw31 : k0_chk31 v156), ∀ a x, ((![v156] : Fin 1 → IVec S16 32) a x).toNat < S16384.size a := fun v156 k0_hw31 => k0_hw31
def k0_off36 (k0_t2 : Fin k0_t2_loop.trips) : Fin 2 → Nat :=
  let c15_i32_118 : BitVec 32 := 15#32
  let v159 : Index := Scalar.indexCast c15_i32_118
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v160 : Index := Scalar.indexCast v84
  ![15, v160.toNat]

def k0_chk32 (v161 : IVec S16 32) : Prop :=
  (∀ a x, ((![v161] : Fin 1 → IVec S16 32) a x).toNat < S16384.size a)
theorem k0_idx32_inb : ∀ (v161 : IVec S16 32) (k0_hw32 : k0_chk32 v161), ∀ a x, ((![v161] : Fin 1 → IVec S16 32) a x).toNat < S16384.size a := fun v161 k0_hw32 => k0_hw32
def k0_off37 (k0_t2 : Fin k0_t2_loop.trips) : Fin 1 → Nat :=
  let c0_i32_12 : BitVec 32 := 0#32
  let c1_i32_14 : BitVec 32 := 1#32
  let arg8 : BitVec 32 := Scf.iv c0_i32_12 c1_i32_14 k0_t2
  let c16_i32_102 : BitVec 32 := 16#32
  let v83 : BitVec 32 := Scalar.muli arg8 c16_i32_102
  let v84 : BitVec 32 := v83
  let v164 : Index := Scalar.indexCast v84
  ![v164.toNat]
@[reducible] def k0_t3_loop : Scf.Loop 32 :=
  let c0_i32_19 : BitVec 32 := 0#32
  let c256_i32_20 : BitVec 32 := 256#32
  let v29 : BitVec 32 := Scalar.addi c0_i32_19 c256_i32_20
  let c1_i32_21 : BitVec 32 := 1#32
  ⟨c0_i32_19, v29, c1_i32_21⟩
def k0_mult3 (k0_t3 : Fin k0_t3_loop.trips) : BitVec 32 :=
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  v83
def k0_off38 (k0_t3 : Fin k0_t3_loop.trips) : Fin 2 → Nat :=
  let c0_i32_103 : BitVec 32 := 0#32
  let v85 : Index := Scalar.indexCast c0_i32_103
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v86 : Index := Scalar.indexCast v84
  ![0, v86.toNat]

def k0_chk33 (v87 : IVec S16 32) : Prop :=
  (∀ a x, ((![v87] : Fin 1 → IVec S16 32) a x).toNat < S16384.size a)
theorem k0_idx33_inb : ∀ (v87 : IVec S16 32) (k0_hw33 : k0_chk33 v87), ∀ a x, ((![v87] : Fin 1 → IVec S16 32) a x).toNat < S16384.size a := fun v87 k0_hw33 => k0_hw33
def k0_off39 (k0_t3 : Fin k0_t3_loop.trips) : Fin 2 → Nat :=
  let c1_i32_104 : BitVec 32 := 1#32
  let v89 : Index := Scalar.indexCast c1_i32_104
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v90 : Index := Scalar.indexCast v84
  ![1, v90.toNat]

def k0_chk34 (v91 : IVec S16 32) : Prop :=
  (∀ a x, ((![v91] : Fin 1 → IVec S16 32) a x).toNat < S16384.size a)
theorem k0_idx34_inb : ∀ (v91 : IVec S16 32) (k0_hw34 : k0_chk34 v91), ∀ a x, ((![v91] : Fin 1 → IVec S16 32) a x).toNat < S16384.size a := fun v91 k0_hw34 => k0_hw34
def k0_off40 (k0_t3 : Fin k0_t3_loop.trips) : Fin 2 → Nat :=
  let c2_i32_105 : BitVec 32 := 2#32
  let v94 : Index := Scalar.indexCast c2_i32_105
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v95 : Index := Scalar.indexCast v84
  ![2, v95.toNat]

def k0_chk35 (v96 : IVec S16 32) : Prop :=
  (∀ a x, ((![v96] : Fin 1 → IVec S16 32) a x).toNat < S16384.size a)
theorem k0_idx35_inb : ∀ (v96 : IVec S16 32) (k0_hw35 : k0_chk35 v96), ∀ a x, ((![v96] : Fin 1 → IVec S16 32) a x).toNat < S16384.size a := fun v96 k0_hw35 => k0_hw35
def k0_off41 (k0_t3 : Fin k0_t3_loop.trips) : Fin 2 → Nat :=
  let c3_i32_106 : BitVec 32 := 3#32
  let v99 : Index := Scalar.indexCast c3_i32_106
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v100 : Index := Scalar.indexCast v84
  ![3, v100.toNat]

def k0_chk36 (v101 : IVec S16 32) : Prop :=
  (∀ a x, ((![v101] : Fin 1 → IVec S16 32) a x).toNat < S16384.size a)
theorem k0_idx36_inb : ∀ (v101 : IVec S16 32) (k0_hw36 : k0_chk36 v101), ∀ a x, ((![v101] : Fin 1 → IVec S16 32) a x).toNat < S16384.size a := fun v101 k0_hw36 => k0_hw36
def k0_off42 (k0_t3 : Fin k0_t3_loop.trips) : Fin 2 → Nat :=
  let c4_i32_107 : BitVec 32 := 4#32
  let v104 : Index := Scalar.indexCast c4_i32_107
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v105 : Index := Scalar.indexCast v84
  ![4, v105.toNat]

def k0_chk37 (v106 : IVec S16 32) : Prop :=
  (∀ a x, ((![v106] : Fin 1 → IVec S16 32) a x).toNat < S16384.size a)
theorem k0_idx37_inb : ∀ (v106 : IVec S16 32) (k0_hw37 : k0_chk37 v106), ∀ a x, ((![v106] : Fin 1 → IVec S16 32) a x).toNat < S16384.size a := fun v106 k0_hw37 => k0_hw37
def k0_off43 (k0_t3 : Fin k0_t3_loop.trips) : Fin 2 → Nat :=
  let c5_i32_108 : BitVec 32 := 5#32
  let v109 : Index := Scalar.indexCast c5_i32_108
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v110 : Index := Scalar.indexCast v84
  ![5, v110.toNat]

def k0_chk38 (v111 : IVec S16 32) : Prop :=
  (∀ a x, ((![v111] : Fin 1 → IVec S16 32) a x).toNat < S16384.size a)
theorem k0_idx38_inb : ∀ (v111 : IVec S16 32) (k0_hw38 : k0_chk38 v111), ∀ a x, ((![v111] : Fin 1 → IVec S16 32) a x).toNat < S16384.size a := fun v111 k0_hw38 => k0_hw38
def k0_off44 (k0_t3 : Fin k0_t3_loop.trips) : Fin 2 → Nat :=
  let c6_i32_109 : BitVec 32 := 6#32
  let v114 : Index := Scalar.indexCast c6_i32_109
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v115 : Index := Scalar.indexCast v84
  ![6, v115.toNat]

def k0_chk39 (v116 : IVec S16 32) : Prop :=
  (∀ a x, ((![v116] : Fin 1 → IVec S16 32) a x).toNat < S16384.size a)
theorem k0_idx39_inb : ∀ (v116 : IVec S16 32) (k0_hw39 : k0_chk39 v116), ∀ a x, ((![v116] : Fin 1 → IVec S16 32) a x).toNat < S16384.size a := fun v116 k0_hw39 => k0_hw39
def k0_off45 (k0_t3 : Fin k0_t3_loop.trips) : Fin 2 → Nat :=
  let c7_i32_110 : BitVec 32 := 7#32
  let v119 : Index := Scalar.indexCast c7_i32_110
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v120 : Index := Scalar.indexCast v84
  ![7, v120.toNat]

def k0_chk40 (v121 : IVec S16 32) : Prop :=
  (∀ a x, ((![v121] : Fin 1 → IVec S16 32) a x).toNat < S16384.size a)
theorem k0_idx40_inb : ∀ (v121 : IVec S16 32) (k0_hw40 : k0_chk40 v121), ∀ a x, ((![v121] : Fin 1 → IVec S16 32) a x).toNat < S16384.size a := fun v121 k0_hw40 => k0_hw40
def k0_off46 (k0_t3 : Fin k0_t3_loop.trips) : Fin 2 → Nat :=
  let c8_i32_111 : BitVec 32 := 8#32
  let v124 : Index := Scalar.indexCast c8_i32_111
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v125 : Index := Scalar.indexCast v84
  ![8, v125.toNat]

def k0_chk41 (v126 : IVec S16 32) : Prop :=
  (∀ a x, ((![v126] : Fin 1 → IVec S16 32) a x).toNat < S16384.size a)
theorem k0_idx41_inb : ∀ (v126 : IVec S16 32) (k0_hw41 : k0_chk41 v126), ∀ a x, ((![v126] : Fin 1 → IVec S16 32) a x).toNat < S16384.size a := fun v126 k0_hw41 => k0_hw41
def k0_off47 (k0_t3 : Fin k0_t3_loop.trips) : Fin 2 → Nat :=
  let c9_i32_112 : BitVec 32 := 9#32
  let v129 : Index := Scalar.indexCast c9_i32_112
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v130 : Index := Scalar.indexCast v84
  ![9, v130.toNat]

def k0_chk42 (v131 : IVec S16 32) : Prop :=
  (∀ a x, ((![v131] : Fin 1 → IVec S16 32) a x).toNat < S16384.size a)
theorem k0_idx42_inb : ∀ (v131 : IVec S16 32) (k0_hw42 : k0_chk42 v131), ∀ a x, ((![v131] : Fin 1 → IVec S16 32) a x).toNat < S16384.size a := fun v131 k0_hw42 => k0_hw42
def k0_off48 (k0_t3 : Fin k0_t3_loop.trips) : Fin 2 → Nat :=
  let c10_i32_113 : BitVec 32 := 10#32
  let v134 : Index := Scalar.indexCast c10_i32_113
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v135 : Index := Scalar.indexCast v84
  ![10, v135.toNat]

def k0_chk43 (v136 : IVec S16 32) : Prop :=
  (∀ a x, ((![v136] : Fin 1 → IVec S16 32) a x).toNat < S16384.size a)
theorem k0_idx43_inb : ∀ (v136 : IVec S16 32) (k0_hw43 : k0_chk43 v136), ∀ a x, ((![v136] : Fin 1 → IVec S16 32) a x).toNat < S16384.size a := fun v136 k0_hw43 => k0_hw43
def k0_off49 (k0_t3 : Fin k0_t3_loop.trips) : Fin 2 → Nat :=
  let c11_i32_114 : BitVec 32 := 11#32
  let v139 : Index := Scalar.indexCast c11_i32_114
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v140 : Index := Scalar.indexCast v84
  ![11, v140.toNat]

def k0_chk44 (v141 : IVec S16 32) : Prop :=
  (∀ a x, ((![v141] : Fin 1 → IVec S16 32) a x).toNat < S16384.size a)
theorem k0_idx44_inb : ∀ (v141 : IVec S16 32) (k0_hw44 : k0_chk44 v141), ∀ a x, ((![v141] : Fin 1 → IVec S16 32) a x).toNat < S16384.size a := fun v141 k0_hw44 => k0_hw44
def k0_off50 (k0_t3 : Fin k0_t3_loop.trips) : Fin 2 → Nat :=
  let c12_i32_115 : BitVec 32 := 12#32
  let v144 : Index := Scalar.indexCast c12_i32_115
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v145 : Index := Scalar.indexCast v84
  ![12, v145.toNat]

def k0_chk45 (v146 : IVec S16 32) : Prop :=
  (∀ a x, ((![v146] : Fin 1 → IVec S16 32) a x).toNat < S16384.size a)
theorem k0_idx45_inb : ∀ (v146 : IVec S16 32) (k0_hw45 : k0_chk45 v146), ∀ a x, ((![v146] : Fin 1 → IVec S16 32) a x).toNat < S16384.size a := fun v146 k0_hw45 => k0_hw45
def k0_off51 (k0_t3 : Fin k0_t3_loop.trips) : Fin 2 → Nat :=
  let c13_i32_116 : BitVec 32 := 13#32
  let v149 : Index := Scalar.indexCast c13_i32_116
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v150 : Index := Scalar.indexCast v84
  ![13, v150.toNat]

def k0_chk46 (v151 : IVec S16 32) : Prop :=
  (∀ a x, ((![v151] : Fin 1 → IVec S16 32) a x).toNat < S16384.size a)
theorem k0_idx46_inb : ∀ (v151 : IVec S16 32) (k0_hw46 : k0_chk46 v151), ∀ a x, ((![v151] : Fin 1 → IVec S16 32) a x).toNat < S16384.size a := fun v151 k0_hw46 => k0_hw46
def k0_off52 (k0_t3 : Fin k0_t3_loop.trips) : Fin 2 → Nat :=
  let c14_i32_117 : BitVec 32 := 14#32
  let v154 : Index := Scalar.indexCast c14_i32_117
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v155 : Index := Scalar.indexCast v84
  ![14, v155.toNat]

def k0_chk47 (v156 : IVec S16 32) : Prop :=
  (∀ a x, ((![v156] : Fin 1 → IVec S16 32) a x).toNat < S16384.size a)
theorem k0_idx47_inb : ∀ (v156 : IVec S16 32) (k0_hw47 : k0_chk47 v156), ∀ a x, ((![v156] : Fin 1 → IVec S16 32) a x).toNat < S16384.size a := fun v156 k0_hw47 => k0_hw47
def k0_off53 (k0_t3 : Fin k0_t3_loop.trips) : Fin 2 → Nat :=
  let c15_i32_118 : BitVec 32 := 15#32
  let v159 : Index := Scalar.indexCast c15_i32_118
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v160 : Index := Scalar.indexCast v84
  ![15, v160.toNat]

def k0_chk48 (v161 : IVec S16 32) : Prop :=
  (∀ a x, ((![v161] : Fin 1 → IVec S16 32) a x).toNat < S16384.size a)
theorem k0_idx48_inb : ∀ (v161 : IVec S16 32) (k0_hw48 : k0_chk48 v161), ∀ a x, ((![v161] : Fin 1 → IVec S16 32) a x).toNat < S16384.size a := fun v161 k0_hw48 => k0_hw48
def k0_off54 (k0_t3 : Fin k0_t3_loop.trips) : Fin 1 → Nat :=
  let c0_i32_19 : BitVec 32 := 0#32
  let c1_i32_21 : BitVec 32 := 1#32
  let arg8 : BitVec 32 := Scf.iv c0_i32_19 c1_i32_21 k0_t3
  let c16_i32_102 : BitVec 32 := 16#32
  let v83 : BitVec 32 := Scalar.muli arg8 c16_i32_102
  let v84 : BitVec 32 := v83
  let v164 : Index := Scalar.indexCast v84
  ![v164.toNat]
@[reducible] def k0_t4_loop : Scf.Loop 32 :=
  let c0_i32_25 : BitVec 32 := 0#32
  let c256_i32_26 : BitVec 32 := 256#32
  let v33 : BitVec 32 := Scalar.addi c0_i32_25 c256_i32_26
  let c1_i32_27 : BitVec 32 := 1#32
  ⟨c0_i32_25, v33, c1_i32_27⟩
def k0_mult4 (k0_t4 : Fin k0_t4_loop.trips) : BitVec 32 :=
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  v83
def k0_off55 (k0_t4 : Fin k0_t4_loop.trips) : Fin 2 → Nat :=
  let c0_i32_103 : BitVec 32 := 0#32
  let v85 : Index := Scalar.indexCast c0_i32_103
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v86 : Index := Scalar.indexCast v84
  ![0, v86.toNat]

def k0_chk49 (v87 : IVec S16 32) : Prop :=
  (∀ a x, ((![v87] : Fin 1 → IVec S16 32) a x).toNat < S16384.size a)
theorem k0_idx49_inb : ∀ (v87 : IVec S16 32) (k0_hw49 : k0_chk49 v87), ∀ a x, ((![v87] : Fin 1 → IVec S16 32) a x).toNat < S16384.size a := fun v87 k0_hw49 => k0_hw49
def k0_off56 (k0_t4 : Fin k0_t4_loop.trips) : Fin 2 → Nat :=
  let c1_i32_104 : BitVec 32 := 1#32
  let v89 : Index := Scalar.indexCast c1_i32_104
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v90 : Index := Scalar.indexCast v84
  ![1, v90.toNat]

def k0_chk50 (v91 : IVec S16 32) : Prop :=
  (∀ a x, ((![v91] : Fin 1 → IVec S16 32) a x).toNat < S16384.size a)
theorem k0_idx50_inb : ∀ (v91 : IVec S16 32) (k0_hw50 : k0_chk50 v91), ∀ a x, ((![v91] : Fin 1 → IVec S16 32) a x).toNat < S16384.size a := fun v91 k0_hw50 => k0_hw50
def k0_off57 (k0_t4 : Fin k0_t4_loop.trips) : Fin 2 → Nat :=
  let c2_i32_105 : BitVec 32 := 2#32
  let v94 : Index := Scalar.indexCast c2_i32_105
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v95 : Index := Scalar.indexCast v84
  ![2, v95.toNat]

def k0_chk51 (v96 : IVec S16 32) : Prop :=
  (∀ a x, ((![v96] : Fin 1 → IVec S16 32) a x).toNat < S16384.size a)
theorem k0_idx51_inb : ∀ (v96 : IVec S16 32) (k0_hw51 : k0_chk51 v96), ∀ a x, ((![v96] : Fin 1 → IVec S16 32) a x).toNat < S16384.size a := fun v96 k0_hw51 => k0_hw51
def k0_off58 (k0_t4 : Fin k0_t4_loop.trips) : Fin 2 → Nat :=
  let c3_i32_106 : BitVec 32 := 3#32
  let v99 : Index := Scalar.indexCast c3_i32_106
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v100 : Index := Scalar.indexCast v84
  ![3, v100.toNat]

def k0_chk52 (v101 : IVec S16 32) : Prop :=
  (∀ a x, ((![v101] : Fin 1 → IVec S16 32) a x).toNat < S16384.size a)
theorem k0_idx52_inb : ∀ (v101 : IVec S16 32) (k0_hw52 : k0_chk52 v101), ∀ a x, ((![v101] : Fin 1 → IVec S16 32) a x).toNat < S16384.size a := fun v101 k0_hw52 => k0_hw52
def k0_off59 (k0_t4 : Fin k0_t4_loop.trips) : Fin 2 → Nat :=
  let c4_i32_107 : BitVec 32 := 4#32
  let v104 : Index := Scalar.indexCast c4_i32_107
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v105 : Index := Scalar.indexCast v84
  ![4, v105.toNat]

def k0_chk53 (v106 : IVec S16 32) : Prop :=
  (∀ a x, ((![v106] : Fin 1 → IVec S16 32) a x).toNat < S16384.size a)
theorem k0_idx53_inb : ∀ (v106 : IVec S16 32) (k0_hw53 : k0_chk53 v106), ∀ a x, ((![v106] : Fin 1 → IVec S16 32) a x).toNat < S16384.size a := fun v106 k0_hw53 => k0_hw53
def k0_off60 (k0_t4 : Fin k0_t4_loop.trips) : Fin 2 → Nat :=
  let c5_i32_108 : BitVec 32 := 5#32
  let v109 : Index := Scalar.indexCast c5_i32_108
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v110 : Index := Scalar.indexCast v84
  ![5, v110.toNat]

def k0_chk54 (v111 : IVec S16 32) : Prop :=
  (∀ a x, ((![v111] : Fin 1 → IVec S16 32) a x).toNat < S16384.size a)
theorem k0_idx54_inb : ∀ (v111 : IVec S16 32) (k0_hw54 : k0_chk54 v111), ∀ a x, ((![v111] : Fin 1 → IVec S16 32) a x).toNat < S16384.size a := fun v111 k0_hw54 => k0_hw54
def k0_off61 (k0_t4 : Fin k0_t4_loop.trips) : Fin 2 → Nat :=
  let c6_i32_109 : BitVec 32 := 6#32
  let v114 : Index := Scalar.indexCast c6_i32_109
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v115 : Index := Scalar.indexCast v84
  ![6, v115.toNat]

def k0_chk55 (v116 : IVec S16 32) : Prop :=
  (∀ a x, ((![v116] : Fin 1 → IVec S16 32) a x).toNat < S16384.size a)
theorem k0_idx55_inb : ∀ (v116 : IVec S16 32) (k0_hw55 : k0_chk55 v116), ∀ a x, ((![v116] : Fin 1 → IVec S16 32) a x).toNat < S16384.size a := fun v116 k0_hw55 => k0_hw55
def k0_off62 (k0_t4 : Fin k0_t4_loop.trips) : Fin 2 → Nat :=
  let c7_i32_110 : BitVec 32 := 7#32
  let v119 : Index := Scalar.indexCast c7_i32_110
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v120 : Index := Scalar.indexCast v84
  ![7, v120.toNat]

def k0_chk56 (v121 : IVec S16 32) : Prop :=
  (∀ a x, ((![v121] : Fin 1 → IVec S16 32) a x).toNat < S16384.size a)
theorem k0_idx56_inb : ∀ (v121 : IVec S16 32) (k0_hw56 : k0_chk56 v121), ∀ a x, ((![v121] : Fin 1 → IVec S16 32) a x).toNat < S16384.size a := fun v121 k0_hw56 => k0_hw56
def k0_off63 (k0_t4 : Fin k0_t4_loop.trips) : Fin 2 → Nat :=
  let c8_i32_111 : BitVec 32 := 8#32
  let v124 : Index := Scalar.indexCast c8_i32_111
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v125 : Index := Scalar.indexCast v84
  ![8, v125.toNat]

def k0_chk57 (v126 : IVec S16 32) : Prop :=
  (∀ a x, ((![v126] : Fin 1 → IVec S16 32) a x).toNat < S16384.size a)
theorem k0_idx57_inb : ∀ (v126 : IVec S16 32) (k0_hw57 : k0_chk57 v126), ∀ a x, ((![v126] : Fin 1 → IVec S16 32) a x).toNat < S16384.size a := fun v126 k0_hw57 => k0_hw57
def k0_off64 (k0_t4 : Fin k0_t4_loop.trips) : Fin 2 → Nat :=
  let c9_i32_112 : BitVec 32 := 9#32
  let v129 : Index := Scalar.indexCast c9_i32_112
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v130 : Index := Scalar.indexCast v84
  ![9, v130.toNat]

def k0_chk58 (v131 : IVec S16 32) : Prop :=
  (∀ a x, ((![v131] : Fin 1 → IVec S16 32) a x).toNat < S16384.size a)
theorem k0_idx58_inb : ∀ (v131 : IVec S16 32) (k0_hw58 : k0_chk58 v131), ∀ a x, ((![v131] : Fin 1 → IVec S16 32) a x).toNat < S16384.size a := fun v131 k0_hw58 => k0_hw58
def k0_off65 (k0_t4 : Fin k0_t4_loop.trips) : Fin 2 → Nat :=
  let c10_i32_113 : BitVec 32 := 10#32
  let v134 : Index := Scalar.indexCast c10_i32_113
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v135 : Index := Scalar.indexCast v84
  ![10, v135.toNat]

def k0_chk59 (v136 : IVec S16 32) : Prop :=
  (∀ a x, ((![v136] : Fin 1 → IVec S16 32) a x).toNat < S16384.size a)
theorem k0_idx59_inb : ∀ (v136 : IVec S16 32) (k0_hw59 : k0_chk59 v136), ∀ a x, ((![v136] : Fin 1 → IVec S16 32) a x).toNat < S16384.size a := fun v136 k0_hw59 => k0_hw59
def k0_off66 (k0_t4 : Fin k0_t4_loop.trips) : Fin 2 → Nat :=
  let c11_i32_114 : BitVec 32 := 11#32
  let v139 : Index := Scalar.indexCast c11_i32_114
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v140 : Index := Scalar.indexCast v84
  ![11, v140.toNat]

def k0_chk60 (v141 : IVec S16 32) : Prop :=
  (∀ a x, ((![v141] : Fin 1 → IVec S16 32) a x).toNat < S16384.size a)
theorem k0_idx60_inb : ∀ (v141 : IVec S16 32) (k0_hw60 : k0_chk60 v141), ∀ a x, ((![v141] : Fin 1 → IVec S16 32) a x).toNat < S16384.size a := fun v141 k0_hw60 => k0_hw60
def k0_off67 (k0_t4 : Fin k0_t4_loop.trips) : Fin 2 → Nat :=
  let c12_i32_115 : BitVec 32 := 12#32
  let v144 : Index := Scalar.indexCast c12_i32_115
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v145 : Index := Scalar.indexCast v84
  ![12, v145.toNat]

def k0_chk61 (v146 : IVec S16 32) : Prop :=
  (∀ a x, ((![v146] : Fin 1 → IVec S16 32) a x).toNat < S16384.size a)
theorem k0_idx61_inb : ∀ (v146 : IVec S16 32) (k0_hw61 : k0_chk61 v146), ∀ a x, ((![v146] : Fin 1 → IVec S16 32) a x).toNat < S16384.size a := fun v146 k0_hw61 => k0_hw61
def k0_off68 (k0_t4 : Fin k0_t4_loop.trips) : Fin 2 → Nat :=
  let c13_i32_116 : BitVec 32 := 13#32
  let v149 : Index := Scalar.indexCast c13_i32_116
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v150 : Index := Scalar.indexCast v84
  ![13, v150.toNat]

def k0_chk62 (v151 : IVec S16 32) : Prop :=
  (∀ a x, ((![v151] : Fin 1 → IVec S16 32) a x).toNat < S16384.size a)
theorem k0_idx62_inb : ∀ (v151 : IVec S16 32) (k0_hw62 : k0_chk62 v151), ∀ a x, ((![v151] : Fin 1 → IVec S16 32) a x).toNat < S16384.size a := fun v151 k0_hw62 => k0_hw62
def k0_off69 (k0_t4 : Fin k0_t4_loop.trips) : Fin 2 → Nat :=
  let c14_i32_117 : BitVec 32 := 14#32
  let v154 : Index := Scalar.indexCast c14_i32_117
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v155 : Index := Scalar.indexCast v84
  ![14, v155.toNat]

def k0_chk63 (v156 : IVec S16 32) : Prop :=
  (∀ a x, ((![v156] : Fin 1 → IVec S16 32) a x).toNat < S16384.size a)
theorem k0_idx63_inb : ∀ (v156 : IVec S16 32) (k0_hw63 : k0_chk63 v156), ∀ a x, ((![v156] : Fin 1 → IVec S16 32) a x).toNat < S16384.size a := fun v156 k0_hw63 => k0_hw63
def k0_off70 (k0_t4 : Fin k0_t4_loop.trips) : Fin 2 → Nat :=
  let c15_i32_118 : BitVec 32 := 15#32
  let v159 : Index := Scalar.indexCast c15_i32_118
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v160 : Index := Scalar.indexCast v84
  ![15, v160.toNat]

def k0_chk64 (v161 : IVec S16 32) : Prop :=
  (∀ a x, ((![v161] : Fin 1 → IVec S16 32) a x).toNat < S16384.size a)
theorem k0_idx64_inb : ∀ (v161 : IVec S16 32) (k0_hw64 : k0_chk64 v161), ∀ a x, ((![v161] : Fin 1 → IVec S16 32) a x).toNat < S16384.size a := fun v161 k0_hw64 => k0_hw64
def k0_off71 (k0_t4 : Fin k0_t4_loop.trips) : Fin 1 → Nat :=
  let c0_i32_25 : BitVec 32 := 0#32
  let c1_i32_27 : BitVec 32 := 1#32
  let arg8 : BitVec 32 := Scf.iv c0_i32_25 c1_i32_27 k0_t4
  let c16_i32_102 : BitVec 32 := 16#32
  let v83 : BitVec 32 := Scalar.muli arg8 c16_i32_102
  let v84 : BitVec 32 := v83
  let v164 : Index := Scalar.indexCast v84
  ![v164.toNat]
@[reducible] def k0_t5_loop : Scf.Loop 32 :=
  let c0_i32_32 : BitVec 32 := 0#32
  let c256_i32_33 : BitVec 32 := 256#32
  let v37 : BitVec 32 := Scalar.addi c0_i32_32 c256_i32_33
  let c1_i32_34 : BitVec 32 := 1#32
  ⟨c0_i32_32, v37, c1_i32_34⟩
def k0_mult5 (k0_t5 : Fin k0_t5_loop.trips) : BitVec 32 :=
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  v83
def k0_off72 (k0_t5 : Fin k0_t5_loop.trips) : Fin 2 → Nat :=
  let c0_i32_103 : BitVec 32 := 0#32
  let v85 : Index := Scalar.indexCast c0_i32_103
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v86 : Index := Scalar.indexCast v84
  ![0, v86.toNat]

def k0_chk65 (v87 : IVec S16 32) : Prop :=
  (∀ a x, ((![v87] : Fin 1 → IVec S16 32) a x).toNat < S16384.size a)
theorem k0_idx65_inb : ∀ (v87 : IVec S16 32) (k0_hw65 : k0_chk65 v87), ∀ a x, ((![v87] : Fin 1 → IVec S16 32) a x).toNat < S16384.size a := fun v87 k0_hw65 => k0_hw65
def k0_off73 (k0_t5 : Fin k0_t5_loop.trips) : Fin 2 → Nat :=
  let c1_i32_104 : BitVec 32 := 1#32
  let v89 : Index := Scalar.indexCast c1_i32_104
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v90 : Index := Scalar.indexCast v84
  ![1, v90.toNat]

def k0_chk66 (v91 : IVec S16 32) : Prop :=
  (∀ a x, ((![v91] : Fin 1 → IVec S16 32) a x).toNat < S16384.size a)
theorem k0_idx66_inb : ∀ (v91 : IVec S16 32) (k0_hw66 : k0_chk66 v91), ∀ a x, ((![v91] : Fin 1 → IVec S16 32) a x).toNat < S16384.size a := fun v91 k0_hw66 => k0_hw66
def k0_off74 (k0_t5 : Fin k0_t5_loop.trips) : Fin 2 → Nat :=
  let c2_i32_105 : BitVec 32 := 2#32
  let v94 : Index := Scalar.indexCast c2_i32_105
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v95 : Index := Scalar.indexCast v84
  ![2, v95.toNat]

def k0_chk67 (v96 : IVec S16 32) : Prop :=
  (∀ a x, ((![v96] : Fin 1 → IVec S16 32) a x).toNat < S16384.size a)
theorem k0_idx67_inb : ∀ (v96 : IVec S16 32) (k0_hw67 : k0_chk67 v96), ∀ a x, ((![v96] : Fin 1 → IVec S16 32) a x).toNat < S16384.size a := fun v96 k0_hw67 => k0_hw67
def k0_off75 (k0_t5 : Fin k0_t5_loop.trips) : Fin 2 → Nat :=
  let c3_i32_106 : BitVec 32 := 3#32
  let v99 : Index := Scalar.indexCast c3_i32_106
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v100 : Index := Scalar.indexCast v84
  ![3, v100.toNat]

def k0_chk68 (v101 : IVec S16 32) : Prop :=
  (∀ a x, ((![v101] : Fin 1 → IVec S16 32) a x).toNat < S16384.size a)
theorem k0_idx68_inb : ∀ (v101 : IVec S16 32) (k0_hw68 : k0_chk68 v101), ∀ a x, ((![v101] : Fin 1 → IVec S16 32) a x).toNat < S16384.size a := fun v101 k0_hw68 => k0_hw68
def k0_off76 (k0_t5 : Fin k0_t5_loop.trips) : Fin 2 → Nat :=
  let c4_i32_107 : BitVec 32 := 4#32
  let v104 : Index := Scalar.indexCast c4_i32_107
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v105 : Index := Scalar.indexCast v84
  ![4, v105.toNat]

def k0_chk69 (v106 : IVec S16 32) : Prop :=
  (∀ a x, ((![v106] : Fin 1 → IVec S16 32) a x).toNat < S16384.size a)
theorem k0_idx69_inb : ∀ (v106 : IVec S16 32) (k0_hw69 : k0_chk69 v106), ∀ a x, ((![v106] : Fin 1 → IVec S16 32) a x).toNat < S16384.size a := fun v106 k0_hw69 => k0_hw69
def k0_off77 (k0_t5 : Fin k0_t5_loop.trips) : Fin 2 → Nat :=
  let c5_i32_108 : BitVec 32 := 5#32
  let v109 : Index := Scalar.indexCast c5_i32_108
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v110 : Index := Scalar.indexCast v84
  ![5, v110.toNat]

def k0_chk70 (v111 : IVec S16 32) : Prop :=
  (∀ a x, ((![v111] : Fin 1 → IVec S16 32) a x).toNat < S16384.size a)
theorem k0_idx70_inb : ∀ (v111 : IVec S16 32) (k0_hw70 : k0_chk70 v111), ∀ a x, ((![v111] : Fin 1 → IVec S16 32) a x).toNat < S16384.size a := fun v111 k0_hw70 => k0_hw70
def k0_off78 (k0_t5 : Fin k0_t5_loop.trips) : Fin 2 → Nat :=
  let c6_i32_109 : BitVec 32 := 6#32
  let v114 : Index := Scalar.indexCast c6_i32_109
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v115 : Index := Scalar.indexCast v84
  ![6, v115.toNat]

def k0_chk71 (v116 : IVec S16 32) : Prop :=
  (∀ a x, ((![v116] : Fin 1 → IVec S16 32) a x).toNat < S16384.size a)
theorem k0_idx71_inb : ∀ (v116 : IVec S16 32) (k0_hw71 : k0_chk71 v116), ∀ a x, ((![v116] : Fin 1 → IVec S16 32) a x).toNat < S16384.size a := fun v116 k0_hw71 => k0_hw71
def k0_off79 (k0_t5 : Fin k0_t5_loop.trips) : Fin 2 → Nat :=
  let c7_i32_110 : BitVec 32 := 7#32
  let v119 : Index := Scalar.indexCast c7_i32_110
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v120 : Index := Scalar.indexCast v84
  ![7, v120.toNat]

def k0_chk72 (v121 : IVec S16 32) : Prop :=
  (∀ a x, ((![v121] : Fin 1 → IVec S16 32) a x).toNat < S16384.size a)
theorem k0_idx72_inb : ∀ (v121 : IVec S16 32) (k0_hw72 : k0_chk72 v121), ∀ a x, ((![v121] : Fin 1 → IVec S16 32) a x).toNat < S16384.size a := fun v121 k0_hw72 => k0_hw72
def k0_off80 (k0_t5 : Fin k0_t5_loop.trips) : Fin 2 → Nat :=
  let c8_i32_111 : BitVec 32 := 8#32
  let v124 : Index := Scalar.indexCast c8_i32_111
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v125 : Index := Scalar.indexCast v84
  ![8, v125.toNat]

def k0_chk73 (v126 : IVec S16 32) : Prop :=
  (∀ a x, ((![v126] : Fin 1 → IVec S16 32) a x).toNat < S16384.size a)
theorem k0_idx73_inb : ∀ (v126 : IVec S16 32) (k0_hw73 : k0_chk73 v126), ∀ a x, ((![v126] : Fin 1 → IVec S16 32) a x).toNat < S16384.size a := fun v126 k0_hw73 => k0_hw73
def k0_off81 (k0_t5 : Fin k0_t5_loop.trips) : Fin 2 → Nat :=
  let c9_i32_112 : BitVec 32 := 9#32
  let v129 : Index := Scalar.indexCast c9_i32_112
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v130 : Index := Scalar.indexCast v84
  ![9, v130.toNat]

def k0_chk74 (v131 : IVec S16 32) : Prop :=
  (∀ a x, ((![v131] : Fin 1 → IVec S16 32) a x).toNat < S16384.size a)
theorem k0_idx74_inb : ∀ (v131 : IVec S16 32) (k0_hw74 : k0_chk74 v131), ∀ a x, ((![v131] : Fin 1 → IVec S16 32) a x).toNat < S16384.size a := fun v131 k0_hw74 => k0_hw74
def k0_off82 (k0_t5 : Fin k0_t5_loop.trips) : Fin 2 → Nat :=
  let c10_i32_113 : BitVec 32 := 10#32
  let v134 : Index := Scalar.indexCast c10_i32_113
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v135 : Index := Scalar.indexCast v84
  ![10, v135.toNat]

def k0_chk75 (v136 : IVec S16 32) : Prop :=
  (∀ a x, ((![v136] : Fin 1 → IVec S16 32) a x).toNat < S16384.size a)
theorem k0_idx75_inb : ∀ (v136 : IVec S16 32) (k0_hw75 : k0_chk75 v136), ∀ a x, ((![v136] : Fin 1 → IVec S16 32) a x).toNat < S16384.size a := fun v136 k0_hw75 => k0_hw75
def k0_off83 (k0_t5 : Fin k0_t5_loop.trips) : Fin 2 → Nat :=
  let c11_i32_114 : BitVec 32 := 11#32
  let v139 : Index := Scalar.indexCast c11_i32_114
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v140 : Index := Scalar.indexCast v84
  ![11, v140.toNat]

def k0_chk76 (v141 : IVec S16 32) : Prop :=
  (∀ a x, ((![v141] : Fin 1 → IVec S16 32) a x).toNat < S16384.size a)
theorem k0_idx76_inb : ∀ (v141 : IVec S16 32) (k0_hw76 : k0_chk76 v141), ∀ a x, ((![v141] : Fin 1 → IVec S16 32) a x).toNat < S16384.size a := fun v141 k0_hw76 => k0_hw76
def k0_off84 (k0_t5 : Fin k0_t5_loop.trips) : Fin 2 → Nat :=
  let c12_i32_115 : BitVec 32 := 12#32
  let v144 : Index := Scalar.indexCast c12_i32_115
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v145 : Index := Scalar.indexCast v84
  ![12, v145.toNat]

def k0_chk77 (v146 : IVec S16 32) : Prop :=
  (∀ a x, ((![v146] : Fin 1 → IVec S16 32) a x).toNat < S16384.size a)
theorem k0_idx77_inb : ∀ (v146 : IVec S16 32) (k0_hw77 : k0_chk77 v146), ∀ a x, ((![v146] : Fin 1 → IVec S16 32) a x).toNat < S16384.size a := fun v146 k0_hw77 => k0_hw77
def k0_off85 (k0_t5 : Fin k0_t5_loop.trips) : Fin 2 → Nat :=
  let c13_i32_116 : BitVec 32 := 13#32
  let v149 : Index := Scalar.indexCast c13_i32_116
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v150 : Index := Scalar.indexCast v84
  ![13, v150.toNat]

def k0_chk78 (v151 : IVec S16 32) : Prop :=
  (∀ a x, ((![v151] : Fin 1 → IVec S16 32) a x).toNat < S16384.size a)
theorem k0_idx78_inb : ∀ (v151 : IVec S16 32) (k0_hw78 : k0_chk78 v151), ∀ a x, ((![v151] : Fin 1 → IVec S16 32) a x).toNat < S16384.size a := fun v151 k0_hw78 => k0_hw78
def k0_off86 (k0_t5 : Fin k0_t5_loop.trips) : Fin 2 → Nat :=
  let c14_i32_117 : BitVec 32 := 14#32
  let v154 : Index := Scalar.indexCast c14_i32_117
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v155 : Index := Scalar.indexCast v84
  ![14, v155.toNat]

def k0_chk79 (v156 : IVec S16 32) : Prop :=
  (∀ a x, ((![v156] : Fin 1 → IVec S16 32) a x).toNat < S16384.size a)
theorem k0_idx79_inb : ∀ (v156 : IVec S16 32) (k0_hw79 : k0_chk79 v156), ∀ a x, ((![v156] : Fin 1 → IVec S16 32) a x).toNat < S16384.size a := fun v156 k0_hw79 => k0_hw79
def k0_off87 (k0_t5 : Fin k0_t5_loop.trips) : Fin 2 → Nat :=
  let c15_i32_118 : BitVec 32 := 15#32
  let v159 : Index := Scalar.indexCast c15_i32_118
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v160 : Index := Scalar.indexCast v84
  ![15, v160.toNat]

def k0_chk80 (v161 : IVec S16 32) : Prop :=
  (∀ a x, ((![v161] : Fin 1 → IVec S16 32) a x).toNat < S16384.size a)
theorem k0_idx80_inb : ∀ (v161 : IVec S16 32) (k0_hw80 : k0_chk80 v161), ∀ a x, ((![v161] : Fin 1 → IVec S16 32) a x).toNat < S16384.size a := fun v161 k0_hw80 => k0_hw80
def k0_off88 (k0_t5 : Fin k0_t5_loop.trips) : Fin 1 → Nat :=
  let c0_i32_32 : BitVec 32 := 0#32
  let c1_i32_34 : BitVec 32 := 1#32
  let arg8 : BitVec 32 := Scf.iv c0_i32_32 c1_i32_34 k0_t5
  let c16_i32_102 : BitVec 32 := 16#32
  let v83 : BitVec 32 := Scalar.muli arg8 c16_i32_102
  let v84 : BitVec 32 := v83
  let v164 : Index := Scalar.indexCast v84
  ![v164.toNat]
@[reducible] def k0_t6_loop : Scf.Loop 32 :=
  let c0_i32_38 : BitVec 32 := 0#32
  let c256_i32_39 : BitVec 32 := 256#32
  let v41 : BitVec 32 := Scalar.addi c0_i32_38 c256_i32_39
  let c1_i32_40 : BitVec 32 := 1#32
  ⟨c0_i32_38, v41, c1_i32_40⟩
def k0_mult6 (k0_t6 : Fin k0_t6_loop.trips) : BitVec 32 :=
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  v83
def k0_off89 (k0_t6 : Fin k0_t6_loop.trips) : Fin 2 → Nat :=
  let c0_i32_103 : BitVec 32 := 0#32
  let v85 : Index := Scalar.indexCast c0_i32_103
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v86 : Index := Scalar.indexCast v84
  ![0, v86.toNat]

def k0_chk81 (v87 : IVec S16 32) : Prop :=
  (∀ a x, ((![v87] : Fin 1 → IVec S16 32) a x).toNat < S16384.size a)
theorem k0_idx81_inb : ∀ (v87 : IVec S16 32) (k0_hw81 : k0_chk81 v87), ∀ a x, ((![v87] : Fin 1 → IVec S16 32) a x).toNat < S16384.size a := fun v87 k0_hw81 => k0_hw81
def k0_off90 (k0_t6 : Fin k0_t6_loop.trips) : Fin 2 → Nat :=
  let c1_i32_104 : BitVec 32 := 1#32
  let v89 : Index := Scalar.indexCast c1_i32_104
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v90 : Index := Scalar.indexCast v84
  ![1, v90.toNat]

def k0_chk82 (v91 : IVec S16 32) : Prop :=
  (∀ a x, ((![v91] : Fin 1 → IVec S16 32) a x).toNat < S16384.size a)
theorem k0_idx82_inb : ∀ (v91 : IVec S16 32) (k0_hw82 : k0_chk82 v91), ∀ a x, ((![v91] : Fin 1 → IVec S16 32) a x).toNat < S16384.size a := fun v91 k0_hw82 => k0_hw82
def k0_off91 (k0_t6 : Fin k0_t6_loop.trips) : Fin 2 → Nat :=
  let c2_i32_105 : BitVec 32 := 2#32
  let v94 : Index := Scalar.indexCast c2_i32_105
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v95 : Index := Scalar.indexCast v84
  ![2, v95.toNat]

def k0_chk83 (v96 : IVec S16 32) : Prop :=
  (∀ a x, ((![v96] : Fin 1 → IVec S16 32) a x).toNat < S16384.size a)
theorem k0_idx83_inb : ∀ (v96 : IVec S16 32) (k0_hw83 : k0_chk83 v96), ∀ a x, ((![v96] : Fin 1 → IVec S16 32) a x).toNat < S16384.size a := fun v96 k0_hw83 => k0_hw83
def k0_off92 (k0_t6 : Fin k0_t6_loop.trips) : Fin 2 → Nat :=
  let c3_i32_106 : BitVec 32 := 3#32
  let v99 : Index := Scalar.indexCast c3_i32_106
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v100 : Index := Scalar.indexCast v84
  ![3, v100.toNat]

def k0_chk84 (v101 : IVec S16 32) : Prop :=
  (∀ a x, ((![v101] : Fin 1 → IVec S16 32) a x).toNat < S16384.size a)
theorem k0_idx84_inb : ∀ (v101 : IVec S16 32) (k0_hw84 : k0_chk84 v101), ∀ a x, ((![v101] : Fin 1 → IVec S16 32) a x).toNat < S16384.size a := fun v101 k0_hw84 => k0_hw84
def k0_off93 (k0_t6 : Fin k0_t6_loop.trips) : Fin 2 → Nat :=
  let c4_i32_107 : BitVec 32 := 4#32
  let v104 : Index := Scalar.indexCast c4_i32_107
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v105 : Index := Scalar.indexCast v84
  ![4, v105.toNat]

def k0_chk85 (v106 : IVec S16 32) : Prop :=
  (∀ a x, ((![v106] : Fin 1 → IVec S16 32) a x).toNat < S16384.size a)
theorem k0_idx85_inb : ∀ (v106 : IVec S16 32) (k0_hw85 : k0_chk85 v106), ∀ a x, ((![v106] : Fin 1 → IVec S16 32) a x).toNat < S16384.size a := fun v106 k0_hw85 => k0_hw85
def k0_off94 (k0_t6 : Fin k0_t6_loop.trips) : Fin 2 → Nat :=
  let c5_i32_108 : BitVec 32 := 5#32
  let v109 : Index := Scalar.indexCast c5_i32_108
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v110 : Index := Scalar.indexCast v84
  ![5, v110.toNat]

def k0_chk86 (v111 : IVec S16 32) : Prop :=
  (∀ a x, ((![v111] : Fin 1 → IVec S16 32) a x).toNat < S16384.size a)
theorem k0_idx86_inb : ∀ (v111 : IVec S16 32) (k0_hw86 : k0_chk86 v111), ∀ a x, ((![v111] : Fin 1 → IVec S16 32) a x).toNat < S16384.size a := fun v111 k0_hw86 => k0_hw86
def k0_off95 (k0_t6 : Fin k0_t6_loop.trips) : Fin 2 → Nat :=
  let c6_i32_109 : BitVec 32 := 6#32
  let v114 : Index := Scalar.indexCast c6_i32_109
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v115 : Index := Scalar.indexCast v84
  ![6, v115.toNat]

def k0_chk87 (v116 : IVec S16 32) : Prop :=
  (∀ a x, ((![v116] : Fin 1 → IVec S16 32) a x).toNat < S16384.size a)
theorem k0_idx87_inb : ∀ (v116 : IVec S16 32) (k0_hw87 : k0_chk87 v116), ∀ a x, ((![v116] : Fin 1 → IVec S16 32) a x).toNat < S16384.size a := fun v116 k0_hw87 => k0_hw87
def k0_off96 (k0_t6 : Fin k0_t6_loop.trips) : Fin 2 → Nat :=
  let c7_i32_110 : BitVec 32 := 7#32
  let v119 : Index := Scalar.indexCast c7_i32_110
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v120 : Index := Scalar.indexCast v84
  ![7, v120.toNat]

def k0_chk88 (v121 : IVec S16 32) : Prop :=
  (∀ a x, ((![v121] : Fin 1 → IVec S16 32) a x).toNat < S16384.size a)
theorem k0_idx88_inb : ∀ (v121 : IVec S16 32) (k0_hw88 : k0_chk88 v121), ∀ a x, ((![v121] : Fin 1 → IVec S16 32) a x).toNat < S16384.size a := fun v121 k0_hw88 => k0_hw88
def k0_off97 (k0_t6 : Fin k0_t6_loop.trips) : Fin 2 → Nat :=
  let c8_i32_111 : BitVec 32 := 8#32
  let v124 : Index := Scalar.indexCast c8_i32_111
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v125 : Index := Scalar.indexCast v84
  ![8, v125.toNat]

def k0_chk89 (v126 : IVec S16 32) : Prop :=
  (∀ a x, ((![v126] : Fin 1 → IVec S16 32) a x).toNat < S16384.size a)
theorem k0_idx89_inb : ∀ (v126 : IVec S16 32) (k0_hw89 : k0_chk89 v126), ∀ a x, ((![v126] : Fin 1 → IVec S16 32) a x).toNat < S16384.size a := fun v126 k0_hw89 => k0_hw89
def k0_off98 (k0_t6 : Fin k0_t6_loop.trips) : Fin 2 → Nat :=
  let c9_i32_112 : BitVec 32 := 9#32
  let v129 : Index := Scalar.indexCast c9_i32_112
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v130 : Index := Scalar.indexCast v84
  ![9, v130.toNat]

def k0_chk90 (v131 : IVec S16 32) : Prop :=
  (∀ a x, ((![v131] : Fin 1 → IVec S16 32) a x).toNat < S16384.size a)
theorem k0_idx90_inb : ∀ (v131 : IVec S16 32) (k0_hw90 : k0_chk90 v131), ∀ a x, ((![v131] : Fin 1 → IVec S16 32) a x).toNat < S16384.size a := fun v131 k0_hw90 => k0_hw90
def k0_off99 (k0_t6 : Fin k0_t6_loop.trips) : Fin 2 → Nat :=
  let c10_i32_113 : BitVec 32 := 10#32
  let v134 : Index := Scalar.indexCast c10_i32_113
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v135 : Index := Scalar.indexCast v84
  ![10, v135.toNat]

def k0_chk91 (v136 : IVec S16 32) : Prop :=
  (∀ a x, ((![v136] : Fin 1 → IVec S16 32) a x).toNat < S16384.size a)
theorem k0_idx91_inb : ∀ (v136 : IVec S16 32) (k0_hw91 : k0_chk91 v136), ∀ a x, ((![v136] : Fin 1 → IVec S16 32) a x).toNat < S16384.size a := fun v136 k0_hw91 => k0_hw91
def k0_off100 (k0_t6 : Fin k0_t6_loop.trips) : Fin 2 → Nat :=
  let c11_i32_114 : BitVec 32 := 11#32
  let v139 : Index := Scalar.indexCast c11_i32_114
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v140 : Index := Scalar.indexCast v84
  ![11, v140.toNat]

def k0_chk92 (v141 : IVec S16 32) : Prop :=
  (∀ a x, ((![v141] : Fin 1 → IVec S16 32) a x).toNat < S16384.size a)
theorem k0_idx92_inb : ∀ (v141 : IVec S16 32) (k0_hw92 : k0_chk92 v141), ∀ a x, ((![v141] : Fin 1 → IVec S16 32) a x).toNat < S16384.size a := fun v141 k0_hw92 => k0_hw92
def k0_off101 (k0_t6 : Fin k0_t6_loop.trips) : Fin 2 → Nat :=
  let c12_i32_115 : BitVec 32 := 12#32
  let v144 : Index := Scalar.indexCast c12_i32_115
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v145 : Index := Scalar.indexCast v84
  ![12, v145.toNat]

def k0_chk93 (v146 : IVec S16 32) : Prop :=
  (∀ a x, ((![v146] : Fin 1 → IVec S16 32) a x).toNat < S16384.size a)
theorem k0_idx93_inb : ∀ (v146 : IVec S16 32) (k0_hw93 : k0_chk93 v146), ∀ a x, ((![v146] : Fin 1 → IVec S16 32) a x).toNat < S16384.size a := fun v146 k0_hw93 => k0_hw93
def k0_off102 (k0_t6 : Fin k0_t6_loop.trips) : Fin 2 → Nat :=
  let c13_i32_116 : BitVec 32 := 13#32
  let v149 : Index := Scalar.indexCast c13_i32_116
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v150 : Index := Scalar.indexCast v84
  ![13, v150.toNat]

def k0_chk94 (v151 : IVec S16 32) : Prop :=
  (∀ a x, ((![v151] : Fin 1 → IVec S16 32) a x).toNat < S16384.size a)
theorem k0_idx94_inb : ∀ (v151 : IVec S16 32) (k0_hw94 : k0_chk94 v151), ∀ a x, ((![v151] : Fin 1 → IVec S16 32) a x).toNat < S16384.size a := fun v151 k0_hw94 => k0_hw94
def k0_off103 (k0_t6 : Fin k0_t6_loop.trips) : Fin 2 → Nat :=
  let c14_i32_117 : BitVec 32 := 14#32
  let v154 : Index := Scalar.indexCast c14_i32_117
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v155 : Index := Scalar.indexCast v84
  ![14, v155.toNat]

def k0_chk95 (v156 : IVec S16 32) : Prop :=
  (∀ a x, ((![v156] : Fin 1 → IVec S16 32) a x).toNat < S16384.size a)
theorem k0_idx95_inb : ∀ (v156 : IVec S16 32) (k0_hw95 : k0_chk95 v156), ∀ a x, ((![v156] : Fin 1 → IVec S16 32) a x).toNat < S16384.size a := fun v156 k0_hw95 => k0_hw95
def k0_off104 (k0_t6 : Fin k0_t6_loop.trips) : Fin 2 → Nat :=
  let c15_i32_118 : BitVec 32 := 15#32
  let v159 : Index := Scalar.indexCast c15_i32_118
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v160 : Index := Scalar.indexCast v84
  ![15, v160.toNat]

def k0_chk96 (v161 : IVec S16 32) : Prop :=
  (∀ a x, ((![v161] : Fin 1 → IVec S16 32) a x).toNat < S16384.size a)
theorem k0_idx96_inb : ∀ (v161 : IVec S16 32) (k0_hw96 : k0_chk96 v161), ∀ a x, ((![v161] : Fin 1 → IVec S16 32) a x).toNat < S16384.size a := fun v161 k0_hw96 => k0_hw96
def k0_off105 (k0_t6 : Fin k0_t6_loop.trips) : Fin 1 → Nat :=
  let c0_i32_38 : BitVec 32 := 0#32
  let c1_i32_40 : BitVec 32 := 1#32
  let arg8 : BitVec 32 := Scf.iv c0_i32_38 c1_i32_40 k0_t6
  let c16_i32_102 : BitVec 32 := 16#32
  let v83 : BitVec 32 := Scalar.muli arg8 c16_i32_102
  let v84 : BitVec 32 := v83
  let v164 : Index := Scalar.indexCast v84
  ![v164.toNat]
@[reducible] def k0_t7_loop : Scf.Loop 32 :=
  let c0_i32_44 : BitVec 32 := 0#32
  let c256_i32_45 : BitVec 32 := 256#32
  let v45 : BitVec 32 := Scalar.addi c0_i32_44 c256_i32_45
  let c1_i32_46 : BitVec 32 := 1#32
  ⟨c0_i32_44, v45, c1_i32_46⟩
def k0_mult7 (k0_t7 : Fin k0_t7_loop.trips) : BitVec 32 :=
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  v83
def k0_off106 (k0_t7 : Fin k0_t7_loop.trips) : Fin 2 → Nat :=
  let c0_i32_103 : BitVec 32 := 0#32
  let v85 : Index := Scalar.indexCast c0_i32_103
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v86 : Index := Scalar.indexCast v84
  ![0, v86.toNat]

def k0_chk97 (v87 : IVec S16 32) : Prop :=
  (∀ a x, ((![v87] : Fin 1 → IVec S16 32) a x).toNat < S16384.size a)
theorem k0_idx97_inb : ∀ (v87 : IVec S16 32) (k0_hw97 : k0_chk97 v87), ∀ a x, ((![v87] : Fin 1 → IVec S16 32) a x).toNat < S16384.size a := fun v87 k0_hw97 => k0_hw97
def k0_off107 (k0_t7 : Fin k0_t7_loop.trips) : Fin 2 → Nat :=
  let c1_i32_104 : BitVec 32 := 1#32
  let v89 : Index := Scalar.indexCast c1_i32_104
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v90 : Index := Scalar.indexCast v84
  ![1, v90.toNat]

def k0_chk98 (v91 : IVec S16 32) : Prop :=
  (∀ a x, ((![v91] : Fin 1 → IVec S16 32) a x).toNat < S16384.size a)
theorem k0_idx98_inb : ∀ (v91 : IVec S16 32) (k0_hw98 : k0_chk98 v91), ∀ a x, ((![v91] : Fin 1 → IVec S16 32) a x).toNat < S16384.size a := fun v91 k0_hw98 => k0_hw98
def k0_off108 (k0_t7 : Fin k0_t7_loop.trips) : Fin 2 → Nat :=
  let c2_i32_105 : BitVec 32 := 2#32
  let v94 : Index := Scalar.indexCast c2_i32_105
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v95 : Index := Scalar.indexCast v84
  ![2, v95.toNat]

def k0_chk99 (v96 : IVec S16 32) : Prop :=
  (∀ a x, ((![v96] : Fin 1 → IVec S16 32) a x).toNat < S16384.size a)
theorem k0_idx99_inb : ∀ (v96 : IVec S16 32) (k0_hw99 : k0_chk99 v96), ∀ a x, ((![v96] : Fin 1 → IVec S16 32) a x).toNat < S16384.size a := fun v96 k0_hw99 => k0_hw99
def k0_off109 (k0_t7 : Fin k0_t7_loop.trips) : Fin 2 → Nat :=
  let c3_i32_106 : BitVec 32 := 3#32
  let v99 : Index := Scalar.indexCast c3_i32_106
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v100 : Index := Scalar.indexCast v84
  ![3, v100.toNat]

def k0_chk100 (v101 : IVec S16 32) : Prop :=
  (∀ a x, ((![v101] : Fin 1 → IVec S16 32) a x).toNat < S16384.size a)
theorem k0_idx100_inb : ∀ (v101 : IVec S16 32) (k0_hw100 : k0_chk100 v101), ∀ a x, ((![v101] : Fin 1 → IVec S16 32) a x).toNat < S16384.size a := fun v101 k0_hw100 => k0_hw100
def k0_off110 (k0_t7 : Fin k0_t7_loop.trips) : Fin 2 → Nat :=
  let c4_i32_107 : BitVec 32 := 4#32
  let v104 : Index := Scalar.indexCast c4_i32_107
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v105 : Index := Scalar.indexCast v84
  ![4, v105.toNat]

def k0_chk101 (v106 : IVec S16 32) : Prop :=
  (∀ a x, ((![v106] : Fin 1 → IVec S16 32) a x).toNat < S16384.size a)
theorem k0_idx101_inb : ∀ (v106 : IVec S16 32) (k0_hw101 : k0_chk101 v106), ∀ a x, ((![v106] : Fin 1 → IVec S16 32) a x).toNat < S16384.size a := fun v106 k0_hw101 => k0_hw101
def k0_off111 (k0_t7 : Fin k0_t7_loop.trips) : Fin 2 → Nat :=
  let c5_i32_108 : BitVec 32 := 5#32
  let v109 : Index := Scalar.indexCast c5_i32_108
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v110 : Index := Scalar.indexCast v84
  ![5, v110.toNat]

def k0_chk102 (v111 : IVec S16 32) : Prop :=
  (∀ a x, ((![v111] : Fin 1 → IVec S16 32) a x).toNat < S16384.size a)
theorem k0_idx102_inb : ∀ (v111 : IVec S16 32) (k0_hw102 : k0_chk102 v111), ∀ a x, ((![v111] : Fin 1 → IVec S16 32) a x).toNat < S16384.size a := fun v111 k0_hw102 => k0_hw102
def k0_off112 (k0_t7 : Fin k0_t7_loop.trips) : Fin 2 → Nat :=
  let c6_i32_109 : BitVec 32 := 6#32
  let v114 : Index := Scalar.indexCast c6_i32_109
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v115 : Index := Scalar.indexCast v84
  ![6, v115.toNat]

def k0_chk103 (v116 : IVec S16 32) : Prop :=
  (∀ a x, ((![v116] : Fin 1 → IVec S16 32) a x).toNat < S16384.size a)
theorem k0_idx103_inb : ∀ (v116 : IVec S16 32) (k0_hw103 : k0_chk103 v116), ∀ a x, ((![v116] : Fin 1 → IVec S16 32) a x).toNat < S16384.size a := fun v116 k0_hw103 => k0_hw103
def k0_off113 (k0_t7 : Fin k0_t7_loop.trips) : Fin 2 → Nat :=
  let c7_i32_110 : BitVec 32 := 7#32
  let v119 : Index := Scalar.indexCast c7_i32_110
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v120 : Index := Scalar.indexCast v84
  ![7, v120.toNat]

def k0_chk104 (v121 : IVec S16 32) : Prop :=
  (∀ a x, ((![v121] : Fin 1 → IVec S16 32) a x).toNat < S16384.size a)
theorem k0_idx104_inb : ∀ (v121 : IVec S16 32) (k0_hw104 : k0_chk104 v121), ∀ a x, ((![v121] : Fin 1 → IVec S16 32) a x).toNat < S16384.size a := fun v121 k0_hw104 => k0_hw104
def k0_off114 (k0_t7 : Fin k0_t7_loop.trips) : Fin 2 → Nat :=
  let c8_i32_111 : BitVec 32 := 8#32
  let v124 : Index := Scalar.indexCast c8_i32_111
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v125 : Index := Scalar.indexCast v84
  ![8, v125.toNat]

def k0_chk105 (v126 : IVec S16 32) : Prop :=
  (∀ a x, ((![v126] : Fin 1 → IVec S16 32) a x).toNat < S16384.size a)
theorem k0_idx105_inb : ∀ (v126 : IVec S16 32) (k0_hw105 : k0_chk105 v126), ∀ a x, ((![v126] : Fin 1 → IVec S16 32) a x).toNat < S16384.size a := fun v126 k0_hw105 => k0_hw105
def k0_off115 (k0_t7 : Fin k0_t7_loop.trips) : Fin 2 → Nat :=
  let c9_i32_112 : BitVec 32 := 9#32
  let v129 : Index := Scalar.indexCast c9_i32_112
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v130 : Index := Scalar.indexCast v84
  ![9, v130.toNat]

def k0_chk106 (v131 : IVec S16 32) : Prop :=
  (∀ a x, ((![v131] : Fin 1 → IVec S16 32) a x).toNat < S16384.size a)
theorem k0_idx106_inb : ∀ (v131 : IVec S16 32) (k0_hw106 : k0_chk106 v131), ∀ a x, ((![v131] : Fin 1 → IVec S16 32) a x).toNat < S16384.size a := fun v131 k0_hw106 => k0_hw106
def k0_off116 (k0_t7 : Fin k0_t7_loop.trips) : Fin 2 → Nat :=
  let c10_i32_113 : BitVec 32 := 10#32
  let v134 : Index := Scalar.indexCast c10_i32_113
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v135 : Index := Scalar.indexCast v84
  ![10, v135.toNat]

def k0_chk107 (v136 : IVec S16 32) : Prop :=
  (∀ a x, ((![v136] : Fin 1 → IVec S16 32) a x).toNat < S16384.size a)
theorem k0_idx107_inb : ∀ (v136 : IVec S16 32) (k0_hw107 : k0_chk107 v136), ∀ a x, ((![v136] : Fin 1 → IVec S16 32) a x).toNat < S16384.size a := fun v136 k0_hw107 => k0_hw107
def k0_off117 (k0_t7 : Fin k0_t7_loop.trips) : Fin 2 → Nat :=
  let c11_i32_114 : BitVec 32 := 11#32
  let v139 : Index := Scalar.indexCast c11_i32_114
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v140 : Index := Scalar.indexCast v84
  ![11, v140.toNat]

def k0_chk108 (v141 : IVec S16 32) : Prop :=
  (∀ a x, ((![v141] : Fin 1 → IVec S16 32) a x).toNat < S16384.size a)
theorem k0_idx108_inb : ∀ (v141 : IVec S16 32) (k0_hw108 : k0_chk108 v141), ∀ a x, ((![v141] : Fin 1 → IVec S16 32) a x).toNat < S16384.size a := fun v141 k0_hw108 => k0_hw108
def k0_off118 (k0_t7 : Fin k0_t7_loop.trips) : Fin 2 → Nat :=
  let c12_i32_115 : BitVec 32 := 12#32
  let v144 : Index := Scalar.indexCast c12_i32_115
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v145 : Index := Scalar.indexCast v84
  ![12, v145.toNat]

def k0_chk109 (v146 : IVec S16 32) : Prop :=
  (∀ a x, ((![v146] : Fin 1 → IVec S16 32) a x).toNat < S16384.size a)
theorem k0_idx109_inb : ∀ (v146 : IVec S16 32) (k0_hw109 : k0_chk109 v146), ∀ a x, ((![v146] : Fin 1 → IVec S16 32) a x).toNat < S16384.size a := fun v146 k0_hw109 => k0_hw109
def k0_off119 (k0_t7 : Fin k0_t7_loop.trips) : Fin 2 → Nat :=
  let c13_i32_116 : BitVec 32 := 13#32
  let v149 : Index := Scalar.indexCast c13_i32_116
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v150 : Index := Scalar.indexCast v84
  ![13, v150.toNat]

def k0_chk110 (v151 : IVec S16 32) : Prop :=
  (∀ a x, ((![v151] : Fin 1 → IVec S16 32) a x).toNat < S16384.size a)
theorem k0_idx110_inb : ∀ (v151 : IVec S16 32) (k0_hw110 : k0_chk110 v151), ∀ a x, ((![v151] : Fin 1 → IVec S16 32) a x).toNat < S16384.size a := fun v151 k0_hw110 => k0_hw110
def k0_off120 (k0_t7 : Fin k0_t7_loop.trips) : Fin 2 → Nat :=
  let c14_i32_117 : BitVec 32 := 14#32
  let v154 : Index := Scalar.indexCast c14_i32_117
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v155 : Index := Scalar.indexCast v84
  ![14, v155.toNat]

def k0_chk111 (v156 : IVec S16 32) : Prop :=
  (∀ a x, ((![v156] : Fin 1 → IVec S16 32) a x).toNat < S16384.size a)
theorem k0_idx111_inb : ∀ (v156 : IVec S16 32) (k0_hw111 : k0_chk111 v156), ∀ a x, ((![v156] : Fin 1 → IVec S16 32) a x).toNat < S16384.size a := fun v156 k0_hw111 => k0_hw111
def k0_off121 (k0_t7 : Fin k0_t7_loop.trips) : Fin 2 → Nat :=
  let c15_i32_118 : BitVec 32 := 15#32
  let v159 : Index := Scalar.indexCast c15_i32_118
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v160 : Index := Scalar.indexCast v84
  ![15, v160.toNat]

def k0_chk112 (v161 : IVec S16 32) : Prop :=
  (∀ a x, ((![v161] : Fin 1 → IVec S16 32) a x).toNat < S16384.size a)
theorem k0_idx112_inb : ∀ (v161 : IVec S16 32) (k0_hw112 : k0_chk112 v161), ∀ a x, ((![v161] : Fin 1 → IVec S16 32) a x).toNat < S16384.size a := fun v161 k0_hw112 => k0_hw112
def k0_off122 (k0_t7 : Fin k0_t7_loop.trips) : Fin 1 → Nat :=
  let c0_i32_44 : BitVec 32 := 0#32
  let c1_i32_46 : BitVec 32 := 1#32
  let arg8 : BitVec 32 := Scf.iv c0_i32_44 c1_i32_46 k0_t7
  let c16_i32_102 : BitVec 32 := 16#32
  let v83 : BitVec 32 := Scalar.muli arg8 c16_i32_102
  let v84 : BitVec 32 := v83
  let v164 : Index := Scalar.indexCast v84
  ![v164.toNat]
@[reducible] def k0_t8_loop : Scf.Loop 32 :=
  let c0_i32_50 : BitVec 32 := 0#32
  let c256_i32_51 : BitVec 32 := 256#32
  let v49 : BitVec 32 := Scalar.addi c0_i32_50 c256_i32_51
  let c1_i32_52 : BitVec 32 := 1#32
  ⟨c0_i32_50, v49, c1_i32_52⟩
def k0_mult8 (k0_t8 : Fin k0_t8_loop.trips) : BitVec 32 :=
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  v83
def k0_off123 (k0_t8 : Fin k0_t8_loop.trips) : Fin 2 → Nat :=
  let c0_i32_103 : BitVec 32 := 0#32
  let v85 : Index := Scalar.indexCast c0_i32_103
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v86 : Index := Scalar.indexCast v84
  ![0, v86.toNat]

def k0_chk113 (v87 : IVec S16 32) : Prop :=
  (∀ a x, ((![v87] : Fin 1 → IVec S16 32) a x).toNat < S16384.size a)
theorem k0_idx113_inb : ∀ (v87 : IVec S16 32) (k0_hw113 : k0_chk113 v87), ∀ a x, ((![v87] : Fin 1 → IVec S16 32) a x).toNat < S16384.size a := fun v87 k0_hw113 => k0_hw113
def k0_off124 (k0_t8 : Fin k0_t8_loop.trips) : Fin 2 → Nat :=
  let c1_i32_104 : BitVec 32 := 1#32
  let v89 : Index := Scalar.indexCast c1_i32_104
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v90 : Index := Scalar.indexCast v84
  ![1, v90.toNat]

def k0_chk114 (v91 : IVec S16 32) : Prop :=
  (∀ a x, ((![v91] : Fin 1 → IVec S16 32) a x).toNat < S16384.size a)
theorem k0_idx114_inb : ∀ (v91 : IVec S16 32) (k0_hw114 : k0_chk114 v91), ∀ a x, ((![v91] : Fin 1 → IVec S16 32) a x).toNat < S16384.size a := fun v91 k0_hw114 => k0_hw114
def k0_off125 (k0_t8 : Fin k0_t8_loop.trips) : Fin 2 → Nat :=
  let c2_i32_105 : BitVec 32 := 2#32
  let v94 : Index := Scalar.indexCast c2_i32_105
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v95 : Index := Scalar.indexCast v84
  ![2, v95.toNat]

def k0_chk115 (v96 : IVec S16 32) : Prop :=
  (∀ a x, ((![v96] : Fin 1 → IVec S16 32) a x).toNat < S16384.size a)
theorem k0_idx115_inb : ∀ (v96 : IVec S16 32) (k0_hw115 : k0_chk115 v96), ∀ a x, ((![v96] : Fin 1 → IVec S16 32) a x).toNat < S16384.size a := fun v96 k0_hw115 => k0_hw115
def k0_off126 (k0_t8 : Fin k0_t8_loop.trips) : Fin 2 → Nat :=
  let c3_i32_106 : BitVec 32 := 3#32
  let v99 : Index := Scalar.indexCast c3_i32_106
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v100 : Index := Scalar.indexCast v84
  ![3, v100.toNat]

def k0_chk116 (v101 : IVec S16 32) : Prop :=
  (∀ a x, ((![v101] : Fin 1 → IVec S16 32) a x).toNat < S16384.size a)
theorem k0_idx116_inb : ∀ (v101 : IVec S16 32) (k0_hw116 : k0_chk116 v101), ∀ a x, ((![v101] : Fin 1 → IVec S16 32) a x).toNat < S16384.size a := fun v101 k0_hw116 => k0_hw116
def k0_off127 (k0_t8 : Fin k0_t8_loop.trips) : Fin 2 → Nat :=
  let c4_i32_107 : BitVec 32 := 4#32
  let v104 : Index := Scalar.indexCast c4_i32_107
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v105 : Index := Scalar.indexCast v84
  ![4, v105.toNat]

def k0_chk117 (v106 : IVec S16 32) : Prop :=
  (∀ a x, ((![v106] : Fin 1 → IVec S16 32) a x).toNat < S16384.size a)
theorem k0_idx117_inb : ∀ (v106 : IVec S16 32) (k0_hw117 : k0_chk117 v106), ∀ a x, ((![v106] : Fin 1 → IVec S16 32) a x).toNat < S16384.size a := fun v106 k0_hw117 => k0_hw117
def k0_off128 (k0_t8 : Fin k0_t8_loop.trips) : Fin 2 → Nat :=
  let c5_i32_108 : BitVec 32 := 5#32
  let v109 : Index := Scalar.indexCast c5_i32_108
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v110 : Index := Scalar.indexCast v84
  ![5, v110.toNat]

def k0_chk118 (v111 : IVec S16 32) : Prop :=
  (∀ a x, ((![v111] : Fin 1 → IVec S16 32) a x).toNat < S16384.size a)
theorem k0_idx118_inb : ∀ (v111 : IVec S16 32) (k0_hw118 : k0_chk118 v111), ∀ a x, ((![v111] : Fin 1 → IVec S16 32) a x).toNat < S16384.size a := fun v111 k0_hw118 => k0_hw118
def k0_off129 (k0_t8 : Fin k0_t8_loop.trips) : Fin 2 → Nat :=
  let c6_i32_109 : BitVec 32 := 6#32
  let v114 : Index := Scalar.indexCast c6_i32_109
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v115 : Index := Scalar.indexCast v84
  ![6, v115.toNat]

def k0_chk119 (v116 : IVec S16 32) : Prop :=
  (∀ a x, ((![v116] : Fin 1 → IVec S16 32) a x).toNat < S16384.size a)
theorem k0_idx119_inb : ∀ (v116 : IVec S16 32) (k0_hw119 : k0_chk119 v116), ∀ a x, ((![v116] : Fin 1 → IVec S16 32) a x).toNat < S16384.size a := fun v116 k0_hw119 => k0_hw119
def k0_off130 (k0_t8 : Fin k0_t8_loop.trips) : Fin 2 → Nat :=
  let c7_i32_110 : BitVec 32 := 7#32
  let v119 : Index := Scalar.indexCast c7_i32_110
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v120 : Index := Scalar.indexCast v84
  ![7, v120.toNat]

def k0_chk120 (v121 : IVec S16 32) : Prop :=
  (∀ a x, ((![v121] : Fin 1 → IVec S16 32) a x).toNat < S16384.size a)
theorem k0_idx120_inb : ∀ (v121 : IVec S16 32) (k0_hw120 : k0_chk120 v121), ∀ a x, ((![v121] : Fin 1 → IVec S16 32) a x).toNat < S16384.size a := fun v121 k0_hw120 => k0_hw120
def k0_off131 (k0_t8 : Fin k0_t8_loop.trips) : Fin 2 → Nat :=
  let c8_i32_111 : BitVec 32 := 8#32
  let v124 : Index := Scalar.indexCast c8_i32_111
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v125 : Index := Scalar.indexCast v84
  ![8, v125.toNat]

def k0_chk121 (v126 : IVec S16 32) : Prop :=
  (∀ a x, ((![v126] : Fin 1 → IVec S16 32) a x).toNat < S16384.size a)
theorem k0_idx121_inb : ∀ (v126 : IVec S16 32) (k0_hw121 : k0_chk121 v126), ∀ a x, ((![v126] : Fin 1 → IVec S16 32) a x).toNat < S16384.size a := fun v126 k0_hw121 => k0_hw121
def k0_off132 (k0_t8 : Fin k0_t8_loop.trips) : Fin 2 → Nat :=
  let c9_i32_112 : BitVec 32 := 9#32
  let v129 : Index := Scalar.indexCast c9_i32_112
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v130 : Index := Scalar.indexCast v84
  ![9, v130.toNat]

def k0_chk122 (v131 : IVec S16 32) : Prop :=
  (∀ a x, ((![v131] : Fin 1 → IVec S16 32) a x).toNat < S16384.size a)
theorem k0_idx122_inb : ∀ (v131 : IVec S16 32) (k0_hw122 : k0_chk122 v131), ∀ a x, ((![v131] : Fin 1 → IVec S16 32) a x).toNat < S16384.size a := fun v131 k0_hw122 => k0_hw122
def k0_off133 (k0_t8 : Fin k0_t8_loop.trips) : Fin 2 → Nat :=
  let c10_i32_113 : BitVec 32 := 10#32
  let v134 : Index := Scalar.indexCast c10_i32_113
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v135 : Index := Scalar.indexCast v84
  ![10, v135.toNat]

def k0_chk123 (v136 : IVec S16 32) : Prop :=
  (∀ a x, ((![v136] : Fin 1 → IVec S16 32) a x).toNat < S16384.size a)
theorem k0_idx123_inb : ∀ (v136 : IVec S16 32) (k0_hw123 : k0_chk123 v136), ∀ a x, ((![v136] : Fin 1 → IVec S16 32) a x).toNat < S16384.size a := fun v136 k0_hw123 => k0_hw123
def k0_off134 (k0_t8 : Fin k0_t8_loop.trips) : Fin 2 → Nat :=
  let c11_i32_114 : BitVec 32 := 11#32
  let v139 : Index := Scalar.indexCast c11_i32_114
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v140 : Index := Scalar.indexCast v84
  ![11, v140.toNat]

def k0_chk124 (v141 : IVec S16 32) : Prop :=
  (∀ a x, ((![v141] : Fin 1 → IVec S16 32) a x).toNat < S16384.size a)
theorem k0_idx124_inb : ∀ (v141 : IVec S16 32) (k0_hw124 : k0_chk124 v141), ∀ a x, ((![v141] : Fin 1 → IVec S16 32) a x).toNat < S16384.size a := fun v141 k0_hw124 => k0_hw124
def k0_off135 (k0_t8 : Fin k0_t8_loop.trips) : Fin 2 → Nat :=
  let c12_i32_115 : BitVec 32 := 12#32
  let v144 : Index := Scalar.indexCast c12_i32_115
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v145 : Index := Scalar.indexCast v84
  ![12, v145.toNat]

def k0_chk125 (v146 : IVec S16 32) : Prop :=
  (∀ a x, ((![v146] : Fin 1 → IVec S16 32) a x).toNat < S16384.size a)
theorem k0_idx125_inb : ∀ (v146 : IVec S16 32) (k0_hw125 : k0_chk125 v146), ∀ a x, ((![v146] : Fin 1 → IVec S16 32) a x).toNat < S16384.size a := fun v146 k0_hw125 => k0_hw125
def k0_off136 (k0_t8 : Fin k0_t8_loop.trips) : Fin 2 → Nat :=
  let c13_i32_116 : BitVec 32 := 13#32
  let v149 : Index := Scalar.indexCast c13_i32_116
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v150 : Index := Scalar.indexCast v84
  ![13, v150.toNat]

def k0_chk126 (v151 : IVec S16 32) : Prop :=
  (∀ a x, ((![v151] : Fin 1 → IVec S16 32) a x).toNat < S16384.size a)
theorem k0_idx126_inb : ∀ (v151 : IVec S16 32) (k0_hw126 : k0_chk126 v151), ∀ a x, ((![v151] : Fin 1 → IVec S16 32) a x).toNat < S16384.size a := fun v151 k0_hw126 => k0_hw126
def k0_off137 (k0_t8 : Fin k0_t8_loop.trips) : Fin 2 → Nat :=
  let c14_i32_117 : BitVec 32 := 14#32
  let v154 : Index := Scalar.indexCast c14_i32_117
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v155 : Index := Scalar.indexCast v84
  ![14, v155.toNat]

def k0_chk127 (v156 : IVec S16 32) : Prop :=
  (∀ a x, ((![v156] : Fin 1 → IVec S16 32) a x).toNat < S16384.size a)
theorem k0_idx127_inb : ∀ (v156 : IVec S16 32) (k0_hw127 : k0_chk127 v156), ∀ a x, ((![v156] : Fin 1 → IVec S16 32) a x).toNat < S16384.size a := fun v156 k0_hw127 => k0_hw127
def k0_off138 (k0_t8 : Fin k0_t8_loop.trips) : Fin 2 → Nat :=
  let c15_i32_118 : BitVec 32 := 15#32
  let v159 : Index := Scalar.indexCast c15_i32_118
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v160 : Index := Scalar.indexCast v84
  ![15, v160.toNat]

def k0_chk128 (v161 : IVec S16 32) : Prop :=
  (∀ a x, ((![v161] : Fin 1 → IVec S16 32) a x).toNat < S16384.size a)
theorem k0_idx128_inb : ∀ (v161 : IVec S16 32) (k0_hw128 : k0_chk128 v161), ∀ a x, ((![v161] : Fin 1 → IVec S16 32) a x).toNat < S16384.size a := fun v161 k0_hw128 => k0_hw128
def k0_off139 (k0_t8 : Fin k0_t8_loop.trips) : Fin 1 → Nat :=
  let c0_i32_50 : BitVec 32 := 0#32
  let c1_i32_52 : BitVec 32 := 1#32
  let arg8 : BitVec 32 := Scf.iv c0_i32_50 c1_i32_52 k0_t8
  let c16_i32_102 : BitVec 32 := 16#32
  let v83 : BitVec 32 := Scalar.muli arg8 c16_i32_102
  let v84 : BitVec 32 := v83
  let v164 : Index := Scalar.indexCast v84
  ![v164.toNat]
@[reducible] def k0_t9_loop : Scf.Loop 32 :=
  let c0_i32_56 : BitVec 32 := 0#32
  let c256_i32_57 : BitVec 32 := 256#32
  let v53 : BitVec 32 := Scalar.addi c0_i32_56 c256_i32_57
  let c1_i32_58 : BitVec 32 := 1#32
  ⟨c0_i32_56, v53, c1_i32_58⟩
def k0_mult9 (k0_t9 : Fin k0_t9_loop.trips) : BitVec 32 :=
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  v83
def k0_off140 (k0_t9 : Fin k0_t9_loop.trips) : Fin 2 → Nat :=
  let c0_i32_103 : BitVec 32 := 0#32
  let v85 : Index := Scalar.indexCast c0_i32_103
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v86 : Index := Scalar.indexCast v84
  ![0, v86.toNat]

def k0_chk129 (v87 : IVec S16 32) : Prop :=
  (∀ a x, ((![v87] : Fin 1 → IVec S16 32) a x).toNat < S16384.size a)
theorem k0_idx129_inb : ∀ (v87 : IVec S16 32) (k0_hw129 : k0_chk129 v87), ∀ a x, ((![v87] : Fin 1 → IVec S16 32) a x).toNat < S16384.size a := fun v87 k0_hw129 => k0_hw129
def k0_off141 (k0_t9 : Fin k0_t9_loop.trips) : Fin 2 → Nat :=
  let c1_i32_104 : BitVec 32 := 1#32
  let v89 : Index := Scalar.indexCast c1_i32_104
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v90 : Index := Scalar.indexCast v84
  ![1, v90.toNat]

def k0_chk130 (v91 : IVec S16 32) : Prop :=
  (∀ a x, ((![v91] : Fin 1 → IVec S16 32) a x).toNat < S16384.size a)
theorem k0_idx130_inb : ∀ (v91 : IVec S16 32) (k0_hw130 : k0_chk130 v91), ∀ a x, ((![v91] : Fin 1 → IVec S16 32) a x).toNat < S16384.size a := fun v91 k0_hw130 => k0_hw130
def k0_off142 (k0_t9 : Fin k0_t9_loop.trips) : Fin 2 → Nat :=
  let c2_i32_105 : BitVec 32 := 2#32
  let v94 : Index := Scalar.indexCast c2_i32_105
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v95 : Index := Scalar.indexCast v84
  ![2, v95.toNat]

def k0_chk131 (v96 : IVec S16 32) : Prop :=
  (∀ a x, ((![v96] : Fin 1 → IVec S16 32) a x).toNat < S16384.size a)
theorem k0_idx131_inb : ∀ (v96 : IVec S16 32) (k0_hw131 : k0_chk131 v96), ∀ a x, ((![v96] : Fin 1 → IVec S16 32) a x).toNat < S16384.size a := fun v96 k0_hw131 => k0_hw131
def k0_off143 (k0_t9 : Fin k0_t9_loop.trips) : Fin 2 → Nat :=
  let c3_i32_106 : BitVec 32 := 3#32
  let v99 : Index := Scalar.indexCast c3_i32_106
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v100 : Index := Scalar.indexCast v84
  ![3, v100.toNat]

def k0_chk132 (v101 : IVec S16 32) : Prop :=
  (∀ a x, ((![v101] : Fin 1 → IVec S16 32) a x).toNat < S16384.size a)
theorem k0_idx132_inb : ∀ (v101 : IVec S16 32) (k0_hw132 : k0_chk132 v101), ∀ a x, ((![v101] : Fin 1 → IVec S16 32) a x).toNat < S16384.size a := fun v101 k0_hw132 => k0_hw132
def k0_off144 (k0_t9 : Fin k0_t9_loop.trips) : Fin 2 → Nat :=
  let c4_i32_107 : BitVec 32 := 4#32
  let v104 : Index := Scalar.indexCast c4_i32_107
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v105 : Index := Scalar.indexCast v84
  ![4, v105.toNat]

def k0_chk133 (v106 : IVec S16 32) : Prop :=
  (∀ a x, ((![v106] : Fin 1 → IVec S16 32) a x).toNat < S16384.size a)
theorem k0_idx133_inb : ∀ (v106 : IVec S16 32) (k0_hw133 : k0_chk133 v106), ∀ a x, ((![v106] : Fin 1 → IVec S16 32) a x).toNat < S16384.size a := fun v106 k0_hw133 => k0_hw133
def k0_off145 (k0_t9 : Fin k0_t9_loop.trips) : Fin 2 → Nat :=
  let c5_i32_108 : BitVec 32 := 5#32
  let v109 : Index := Scalar.indexCast c5_i32_108
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v110 : Index := Scalar.indexCast v84
  ![5, v110.toNat]

def k0_chk134 (v111 : IVec S16 32) : Prop :=
  (∀ a x, ((![v111] : Fin 1 → IVec S16 32) a x).toNat < S16384.size a)
theorem k0_idx134_inb : ∀ (v111 : IVec S16 32) (k0_hw134 : k0_chk134 v111), ∀ a x, ((![v111] : Fin 1 → IVec S16 32) a x).toNat < S16384.size a := fun v111 k0_hw134 => k0_hw134
def k0_off146 (k0_t9 : Fin k0_t9_loop.trips) : Fin 2 → Nat :=
  let c6_i32_109 : BitVec 32 := 6#32
  let v114 : Index := Scalar.indexCast c6_i32_109
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v115 : Index := Scalar.indexCast v84
  ![6, v115.toNat]

def k0_chk135 (v116 : IVec S16 32) : Prop :=
  (∀ a x, ((![v116] : Fin 1 → IVec S16 32) a x).toNat < S16384.size a)
theorem k0_idx135_inb : ∀ (v116 : IVec S16 32) (k0_hw135 : k0_chk135 v116), ∀ a x, ((![v116] : Fin 1 → IVec S16 32) a x).toNat < S16384.size a := fun v116 k0_hw135 => k0_hw135
def k0_off147 (k0_t9 : Fin k0_t9_loop.trips) : Fin 2 → Nat :=
  let c7_i32_110 : BitVec 32 := 7#32
  let v119 : Index := Scalar.indexCast c7_i32_110
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v120 : Index := Scalar.indexCast v84
  ![7, v120.toNat]

def k0_chk136 (v121 : IVec S16 32) : Prop :=
  (∀ a x, ((![v121] : Fin 1 → IVec S16 32) a x).toNat < S16384.size a)
theorem k0_idx136_inb : ∀ (v121 : IVec S16 32) (k0_hw136 : k0_chk136 v121), ∀ a x, ((![v121] : Fin 1 → IVec S16 32) a x).toNat < S16384.size a := fun v121 k0_hw136 => k0_hw136
def k0_off148 (k0_t9 : Fin k0_t9_loop.trips) : Fin 2 → Nat :=
  let c8_i32_111 : BitVec 32 := 8#32
  let v124 : Index := Scalar.indexCast c8_i32_111
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v125 : Index := Scalar.indexCast v84
  ![8, v125.toNat]

def k0_chk137 (v126 : IVec S16 32) : Prop :=
  (∀ a x, ((![v126] : Fin 1 → IVec S16 32) a x).toNat < S16384.size a)
theorem k0_idx137_inb : ∀ (v126 : IVec S16 32) (k0_hw137 : k0_chk137 v126), ∀ a x, ((![v126] : Fin 1 → IVec S16 32) a x).toNat < S16384.size a := fun v126 k0_hw137 => k0_hw137
def k0_off149 (k0_t9 : Fin k0_t9_loop.trips) : Fin 2 → Nat :=
  let c9_i32_112 : BitVec 32 := 9#32
  let v129 : Index := Scalar.indexCast c9_i32_112
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v130 : Index := Scalar.indexCast v84
  ![9, v130.toNat]

def k0_chk138 (v131 : IVec S16 32) : Prop :=
  (∀ a x, ((![v131] : Fin 1 → IVec S16 32) a x).toNat < S16384.size a)
theorem k0_idx138_inb : ∀ (v131 : IVec S16 32) (k0_hw138 : k0_chk138 v131), ∀ a x, ((![v131] : Fin 1 → IVec S16 32) a x).toNat < S16384.size a := fun v131 k0_hw138 => k0_hw138
def k0_off150 (k0_t9 : Fin k0_t9_loop.trips) : Fin 2 → Nat :=
  let c10_i32_113 : BitVec 32 := 10#32
  let v134 : Index := Scalar.indexCast c10_i32_113
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v135 : Index := Scalar.indexCast v84
  ![10, v135.toNat]

def k0_chk139 (v136 : IVec S16 32) : Prop :=
  (∀ a x, ((![v136] : Fin 1 → IVec S16 32) a x).toNat < S16384.size a)
theorem k0_idx139_inb : ∀ (v136 : IVec S16 32) (k0_hw139 : k0_chk139 v136), ∀ a x, ((![v136] : Fin 1 → IVec S16 32) a x).toNat < S16384.size a := fun v136 k0_hw139 => k0_hw139
def k0_off151 (k0_t9 : Fin k0_t9_loop.trips) : Fin 2 → Nat :=
  let c11_i32_114 : BitVec 32 := 11#32
  let v139 : Index := Scalar.indexCast c11_i32_114
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v140 : Index := Scalar.indexCast v84
  ![11, v140.toNat]

def k0_chk140 (v141 : IVec S16 32) : Prop :=
  (∀ a x, ((![v141] : Fin 1 → IVec S16 32) a x).toNat < S16384.size a)
theorem k0_idx140_inb : ∀ (v141 : IVec S16 32) (k0_hw140 : k0_chk140 v141), ∀ a x, ((![v141] : Fin 1 → IVec S16 32) a x).toNat < S16384.size a := fun v141 k0_hw140 => k0_hw140
def k0_off152 (k0_t9 : Fin k0_t9_loop.trips) : Fin 2 → Nat :=
  let c12_i32_115 : BitVec 32 := 12#32
  let v144 : Index := Scalar.indexCast c12_i32_115
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v145 : Index := Scalar.indexCast v84
  ![12, v145.toNat]

def k0_chk141 (v146 : IVec S16 32) : Prop :=
  (∀ a x, ((![v146] : Fin 1 → IVec S16 32) a x).toNat < S16384.size a)
theorem k0_idx141_inb : ∀ (v146 : IVec S16 32) (k0_hw141 : k0_chk141 v146), ∀ a x, ((![v146] : Fin 1 → IVec S16 32) a x).toNat < S16384.size a := fun v146 k0_hw141 => k0_hw141
def k0_off153 (k0_t9 : Fin k0_t9_loop.trips) : Fin 2 → Nat :=
  let c13_i32_116 : BitVec 32 := 13#32
  let v149 : Index := Scalar.indexCast c13_i32_116
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v150 : Index := Scalar.indexCast v84
  ![13, v150.toNat]

def k0_chk142 (v151 : IVec S16 32) : Prop :=
  (∀ a x, ((![v151] : Fin 1 → IVec S16 32) a x).toNat < S16384.size a)
theorem k0_idx142_inb : ∀ (v151 : IVec S16 32) (k0_hw142 : k0_chk142 v151), ∀ a x, ((![v151] : Fin 1 → IVec S16 32) a x).toNat < S16384.size a := fun v151 k0_hw142 => k0_hw142
def k0_off154 (k0_t9 : Fin k0_t9_loop.trips) : Fin 2 → Nat :=
  let c14_i32_117 : BitVec 32 := 14#32
  let v154 : Index := Scalar.indexCast c14_i32_117
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v155 : Index := Scalar.indexCast v84
  ![14, v155.toNat]

def k0_chk143 (v156 : IVec S16 32) : Prop :=
  (∀ a x, ((![v156] : Fin 1 → IVec S16 32) a x).toNat < S16384.size a)
theorem k0_idx143_inb : ∀ (v156 : IVec S16 32) (k0_hw143 : k0_chk143 v156), ∀ a x, ((![v156] : Fin 1 → IVec S16 32) a x).toNat < S16384.size a := fun v156 k0_hw143 => k0_hw143
def k0_off155 (k0_t9 : Fin k0_t9_loop.trips) : Fin 2 → Nat :=
  let c15_i32_118 : BitVec 32 := 15#32
  let v159 : Index := Scalar.indexCast c15_i32_118
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v160 : Index := Scalar.indexCast v84
  ![15, v160.toNat]

def k0_chk144 (v161 : IVec S16 32) : Prop :=
  (∀ a x, ((![v161] : Fin 1 → IVec S16 32) a x).toNat < S16384.size a)
theorem k0_idx144_inb : ∀ (v161 : IVec S16 32) (k0_hw144 : k0_chk144 v161), ∀ a x, ((![v161] : Fin 1 → IVec S16 32) a x).toNat < S16384.size a := fun v161 k0_hw144 => k0_hw144
def k0_off156 (k0_t9 : Fin k0_t9_loop.trips) : Fin 1 → Nat :=
  let c0_i32_56 : BitVec 32 := 0#32
  let c1_i32_58 : BitVec 32 := 1#32
  let arg8 : BitVec 32 := Scf.iv c0_i32_56 c1_i32_58 k0_t9
  let c16_i32_102 : BitVec 32 := 16#32
  let v83 : BitVec 32 := Scalar.muli arg8 c16_i32_102
  let v84 : BitVec 32 := v83
  let v164 : Index := Scalar.indexCast v84
  ![v164.toNat]
@[reducible] def k0_t10_loop : Scf.Loop 32 :=
  let c0_i32_62 : BitVec 32 := 0#32
  let c256_i32_63 : BitVec 32 := 256#32
  let v57 : BitVec 32 := Scalar.addi c0_i32_62 c256_i32_63
  let c1_i32_64 : BitVec 32 := 1#32
  ⟨c0_i32_62, v57, c1_i32_64⟩
def k0_mult10 (k0_t10 : Fin k0_t10_loop.trips) : BitVec 32 :=
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  v83
def k0_off157 (k0_t10 : Fin k0_t10_loop.trips) : Fin 2 → Nat :=
  let c0_i32_103 : BitVec 32 := 0#32
  let v85 : Index := Scalar.indexCast c0_i32_103
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v86 : Index := Scalar.indexCast v84
  ![0, v86.toNat]

def k0_chk145 (v87 : IVec S16 32) : Prop :=
  (∀ a x, ((![v87] : Fin 1 → IVec S16 32) a x).toNat < S16384.size a)
theorem k0_idx145_inb : ∀ (v87 : IVec S16 32) (k0_hw145 : k0_chk145 v87), ∀ a x, ((![v87] : Fin 1 → IVec S16 32) a x).toNat < S16384.size a := fun v87 k0_hw145 => k0_hw145
def k0_off158 (k0_t10 : Fin k0_t10_loop.trips) : Fin 2 → Nat :=
  let c1_i32_104 : BitVec 32 := 1#32
  let v89 : Index := Scalar.indexCast c1_i32_104
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v90 : Index := Scalar.indexCast v84
  ![1, v90.toNat]

def k0_chk146 (v91 : IVec S16 32) : Prop :=
  (∀ a x, ((![v91] : Fin 1 → IVec S16 32) a x).toNat < S16384.size a)
theorem k0_idx146_inb : ∀ (v91 : IVec S16 32) (k0_hw146 : k0_chk146 v91), ∀ a x, ((![v91] : Fin 1 → IVec S16 32) a x).toNat < S16384.size a := fun v91 k0_hw146 => k0_hw146
def k0_off159 (k0_t10 : Fin k0_t10_loop.trips) : Fin 2 → Nat :=
  let c2_i32_105 : BitVec 32 := 2#32
  let v94 : Index := Scalar.indexCast c2_i32_105
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v95 : Index := Scalar.indexCast v84
  ![2, v95.toNat]

def k0_chk147 (v96 : IVec S16 32) : Prop :=
  (∀ a x, ((![v96] : Fin 1 → IVec S16 32) a x).toNat < S16384.size a)
theorem k0_idx147_inb : ∀ (v96 : IVec S16 32) (k0_hw147 : k0_chk147 v96), ∀ a x, ((![v96] : Fin 1 → IVec S16 32) a x).toNat < S16384.size a := fun v96 k0_hw147 => k0_hw147
def k0_off160 (k0_t10 : Fin k0_t10_loop.trips) : Fin 2 → Nat :=
  let c3_i32_106 : BitVec 32 := 3#32
  let v99 : Index := Scalar.indexCast c3_i32_106
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v100 : Index := Scalar.indexCast v84
  ![3, v100.toNat]

def k0_chk148 (v101 : IVec S16 32) : Prop :=
  (∀ a x, ((![v101] : Fin 1 → IVec S16 32) a x).toNat < S16384.size a)
theorem k0_idx148_inb : ∀ (v101 : IVec S16 32) (k0_hw148 : k0_chk148 v101), ∀ a x, ((![v101] : Fin 1 → IVec S16 32) a x).toNat < S16384.size a := fun v101 k0_hw148 => k0_hw148
def k0_off161 (k0_t10 : Fin k0_t10_loop.trips) : Fin 2 → Nat :=
  let c4_i32_107 : BitVec 32 := 4#32
  let v104 : Index := Scalar.indexCast c4_i32_107
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v105 : Index := Scalar.indexCast v84
  ![4, v105.toNat]

def k0_chk149 (v106 : IVec S16 32) : Prop :=
  (∀ a x, ((![v106] : Fin 1 → IVec S16 32) a x).toNat < S16384.size a)
theorem k0_idx149_inb : ∀ (v106 : IVec S16 32) (k0_hw149 : k0_chk149 v106), ∀ a x, ((![v106] : Fin 1 → IVec S16 32) a x).toNat < S16384.size a := fun v106 k0_hw149 => k0_hw149
def k0_off162 (k0_t10 : Fin k0_t10_loop.trips) : Fin 2 → Nat :=
  let c5_i32_108 : BitVec 32 := 5#32
  let v109 : Index := Scalar.indexCast c5_i32_108
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v110 : Index := Scalar.indexCast v84
  ![5, v110.toNat]

def k0_chk150 (v111 : IVec S16 32) : Prop :=
  (∀ a x, ((![v111] : Fin 1 → IVec S16 32) a x).toNat < S16384.size a)
theorem k0_idx150_inb : ∀ (v111 : IVec S16 32) (k0_hw150 : k0_chk150 v111), ∀ a x, ((![v111] : Fin 1 → IVec S16 32) a x).toNat < S16384.size a := fun v111 k0_hw150 => k0_hw150
def k0_off163 (k0_t10 : Fin k0_t10_loop.trips) : Fin 2 → Nat :=
  let c6_i32_109 : BitVec 32 := 6#32
  let v114 : Index := Scalar.indexCast c6_i32_109
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v115 : Index := Scalar.indexCast v84
  ![6, v115.toNat]

def k0_chk151 (v116 : IVec S16 32) : Prop :=
  (∀ a x, ((![v116] : Fin 1 → IVec S16 32) a x).toNat < S16384.size a)
theorem k0_idx151_inb : ∀ (v116 : IVec S16 32) (k0_hw151 : k0_chk151 v116), ∀ a x, ((![v116] : Fin 1 → IVec S16 32) a x).toNat < S16384.size a := fun v116 k0_hw151 => k0_hw151
def k0_off164 (k0_t10 : Fin k0_t10_loop.trips) : Fin 2 → Nat :=
  let c7_i32_110 : BitVec 32 := 7#32
  let v119 : Index := Scalar.indexCast c7_i32_110
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v120 : Index := Scalar.indexCast v84
  ![7, v120.toNat]

def k0_chk152 (v121 : IVec S16 32) : Prop :=
  (∀ a x, ((![v121] : Fin 1 → IVec S16 32) a x).toNat < S16384.size a)
theorem k0_idx152_inb : ∀ (v121 : IVec S16 32) (k0_hw152 : k0_chk152 v121), ∀ a x, ((![v121] : Fin 1 → IVec S16 32) a x).toNat < S16384.size a := fun v121 k0_hw152 => k0_hw152
def k0_off165 (k0_t10 : Fin k0_t10_loop.trips) : Fin 2 → Nat :=
  let c8_i32_111 : BitVec 32 := 8#32
  let v124 : Index := Scalar.indexCast c8_i32_111
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v125 : Index := Scalar.indexCast v84
  ![8, v125.toNat]

def k0_chk153 (v126 : IVec S16 32) : Prop :=
  (∀ a x, ((![v126] : Fin 1 → IVec S16 32) a x).toNat < S16384.size a)
theorem k0_idx153_inb : ∀ (v126 : IVec S16 32) (k0_hw153 : k0_chk153 v126), ∀ a x, ((![v126] : Fin 1 → IVec S16 32) a x).toNat < S16384.size a := fun v126 k0_hw153 => k0_hw153
def k0_off166 (k0_t10 : Fin k0_t10_loop.trips) : Fin 2 → Nat :=
  let c9_i32_112 : BitVec 32 := 9#32
  let v129 : Index := Scalar.indexCast c9_i32_112
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v130 : Index := Scalar.indexCast v84
  ![9, v130.toNat]

def k0_chk154 (v131 : IVec S16 32) : Prop :=
  (∀ a x, ((![v131] : Fin 1 → IVec S16 32) a x).toNat < S16384.size a)
theorem k0_idx154_inb : ∀ (v131 : IVec S16 32) (k0_hw154 : k0_chk154 v131), ∀ a x, ((![v131] : Fin 1 → IVec S16 32) a x).toNat < S16384.size a := fun v131 k0_hw154 => k0_hw154
def k0_off167 (k0_t10 : Fin k0_t10_loop.trips) : Fin 2 → Nat :=
  let c10_i32_113 : BitVec 32 := 10#32
  let v134 : Index := Scalar.indexCast c10_i32_113
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v135 : Index := Scalar.indexCast v84
  ![10, v135.toNat]

def k0_chk155 (v136 : IVec S16 32) : Prop :=
  (∀ a x, ((![v136] : Fin 1 → IVec S16 32) a x).toNat < S16384.size a)
theorem k0_idx155_inb : ∀ (v136 : IVec S16 32) (k0_hw155 : k0_chk155 v136), ∀ a x, ((![v136] : Fin 1 → IVec S16 32) a x).toNat < S16384.size a := fun v136 k0_hw155 => k0_hw155
def k0_off168 (k0_t10 : Fin k0_t10_loop.trips) : Fin 2 → Nat :=
  let c11_i32_114 : BitVec 32 := 11#32
  let v139 : Index := Scalar.indexCast c11_i32_114
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v140 : Index := Scalar.indexCast v84
  ![11, v140.toNat]

def k0_chk156 (v141 : IVec S16 32) : Prop :=
  (∀ a x, ((![v141] : Fin 1 → IVec S16 32) a x).toNat < S16384.size a)
theorem k0_idx156_inb : ∀ (v141 : IVec S16 32) (k0_hw156 : k0_chk156 v141), ∀ a x, ((![v141] : Fin 1 → IVec S16 32) a x).toNat < S16384.size a := fun v141 k0_hw156 => k0_hw156
def k0_off169 (k0_t10 : Fin k0_t10_loop.trips) : Fin 2 → Nat :=
  let c12_i32_115 : BitVec 32 := 12#32
  let v144 : Index := Scalar.indexCast c12_i32_115
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v145 : Index := Scalar.indexCast v84
  ![12, v145.toNat]

def k0_chk157 (v146 : IVec S16 32) : Prop :=
  (∀ a x, ((![v146] : Fin 1 → IVec S16 32) a x).toNat < S16384.size a)
theorem k0_idx157_inb : ∀ (v146 : IVec S16 32) (k0_hw157 : k0_chk157 v146), ∀ a x, ((![v146] : Fin 1 → IVec S16 32) a x).toNat < S16384.size a := fun v146 k0_hw157 => k0_hw157
def k0_off170 (k0_t10 : Fin k0_t10_loop.trips) : Fin 2 → Nat :=
  let c13_i32_116 : BitVec 32 := 13#32
  let v149 : Index := Scalar.indexCast c13_i32_116
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v150 : Index := Scalar.indexCast v84
  ![13, v150.toNat]

def k0_chk158 (v151 : IVec S16 32) : Prop :=
  (∀ a x, ((![v151] : Fin 1 → IVec S16 32) a x).toNat < S16384.size a)
theorem k0_idx158_inb : ∀ (v151 : IVec S16 32) (k0_hw158 : k0_chk158 v151), ∀ a x, ((![v151] : Fin 1 → IVec S16 32) a x).toNat < S16384.size a := fun v151 k0_hw158 => k0_hw158
def k0_off171 (k0_t10 : Fin k0_t10_loop.trips) : Fin 2 → Nat :=
  let c14_i32_117 : BitVec 32 := 14#32
  let v154 : Index := Scalar.indexCast c14_i32_117
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v155 : Index := Scalar.indexCast v84
  ![14, v155.toNat]

def k0_chk159 (v156 : IVec S16 32) : Prop :=
  (∀ a x, ((![v156] : Fin 1 → IVec S16 32) a x).toNat < S16384.size a)
theorem k0_idx159_inb : ∀ (v156 : IVec S16 32) (k0_hw159 : k0_chk159 v156), ∀ a x, ((![v156] : Fin 1 → IVec S16 32) a x).toNat < S16384.size a := fun v156 k0_hw159 => k0_hw159
def k0_off172 (k0_t10 : Fin k0_t10_loop.trips) : Fin 2 → Nat :=
  let c15_i32_118 : BitVec 32 := 15#32
  let v159 : Index := Scalar.indexCast c15_i32_118
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v160 : Index := Scalar.indexCast v84
  ![15, v160.toNat]

def k0_chk160 (v161 : IVec S16 32) : Prop :=
  (∀ a x, ((![v161] : Fin 1 → IVec S16 32) a x).toNat < S16384.size a)
theorem k0_idx160_inb : ∀ (v161 : IVec S16 32) (k0_hw160 : k0_chk160 v161), ∀ a x, ((![v161] : Fin 1 → IVec S16 32) a x).toNat < S16384.size a := fun v161 k0_hw160 => k0_hw160
def k0_off173 (k0_t10 : Fin k0_t10_loop.trips) : Fin 1 → Nat :=
  let c0_i32_62 : BitVec 32 := 0#32
  let c1_i32_64 : BitVec 32 := 1#32
  let arg8 : BitVec 32 := Scf.iv c0_i32_62 c1_i32_64 k0_t10
  let c16_i32_102 : BitVec 32 := 16#32
  let v83 : BitVec 32 := Scalar.muli arg8 c16_i32_102
  let v84 : BitVec 32 := v83
  let v164 : Index := Scalar.indexCast v84
  ![v164.toNat]
@[reducible] def k0_t11_loop : Scf.Loop 32 :=
  let c0_i32_68 : BitVec 32 := 0#32
  let c256_i32_69 : BitVec 32 := 256#32
  let v61 : BitVec 32 := Scalar.addi c0_i32_68 c256_i32_69
  let c1_i32_70 : BitVec 32 := 1#32
  ⟨c0_i32_68, v61, c1_i32_70⟩
def k0_mult11 (k0_t11 : Fin k0_t11_loop.trips) : BitVec 32 :=
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  v83
def k0_off174 (k0_t11 : Fin k0_t11_loop.trips) : Fin 2 → Nat :=
  let c0_i32_103 : BitVec 32 := 0#32
  let v85 : Index := Scalar.indexCast c0_i32_103
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v86 : Index := Scalar.indexCast v84
  ![0, v86.toNat]

def k0_chk161 (v87 : IVec S16 32) : Prop :=
  (∀ a x, ((![v87] : Fin 1 → IVec S16 32) a x).toNat < S16384.size a)
theorem k0_idx161_inb : ∀ (v87 : IVec S16 32) (k0_hw161 : k0_chk161 v87), ∀ a x, ((![v87] : Fin 1 → IVec S16 32) a x).toNat < S16384.size a := fun v87 k0_hw161 => k0_hw161
def k0_off175 (k0_t11 : Fin k0_t11_loop.trips) : Fin 2 → Nat :=
  let c1_i32_104 : BitVec 32 := 1#32
  let v89 : Index := Scalar.indexCast c1_i32_104
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v90 : Index := Scalar.indexCast v84
  ![1, v90.toNat]

def k0_chk162 (v91 : IVec S16 32) : Prop :=
  (∀ a x, ((![v91] : Fin 1 → IVec S16 32) a x).toNat < S16384.size a)
theorem k0_idx162_inb : ∀ (v91 : IVec S16 32) (k0_hw162 : k0_chk162 v91), ∀ a x, ((![v91] : Fin 1 → IVec S16 32) a x).toNat < S16384.size a := fun v91 k0_hw162 => k0_hw162
def k0_off176 (k0_t11 : Fin k0_t11_loop.trips) : Fin 2 → Nat :=
  let c2_i32_105 : BitVec 32 := 2#32
  let v94 : Index := Scalar.indexCast c2_i32_105
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v95 : Index := Scalar.indexCast v84
  ![2, v95.toNat]

def k0_chk163 (v96 : IVec S16 32) : Prop :=
  (∀ a x, ((![v96] : Fin 1 → IVec S16 32) a x).toNat < S16384.size a)
theorem k0_idx163_inb : ∀ (v96 : IVec S16 32) (k0_hw163 : k0_chk163 v96), ∀ a x, ((![v96] : Fin 1 → IVec S16 32) a x).toNat < S16384.size a := fun v96 k0_hw163 => k0_hw163
def k0_off177 (k0_t11 : Fin k0_t11_loop.trips) : Fin 2 → Nat :=
  let c3_i32_106 : BitVec 32 := 3#32
  let v99 : Index := Scalar.indexCast c3_i32_106
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v100 : Index := Scalar.indexCast v84
  ![3, v100.toNat]

def k0_chk164 (v101 : IVec S16 32) : Prop :=
  (∀ a x, ((![v101] : Fin 1 → IVec S16 32) a x).toNat < S16384.size a)
theorem k0_idx164_inb : ∀ (v101 : IVec S16 32) (k0_hw164 : k0_chk164 v101), ∀ a x, ((![v101] : Fin 1 → IVec S16 32) a x).toNat < S16384.size a := fun v101 k0_hw164 => k0_hw164
def k0_off178 (k0_t11 : Fin k0_t11_loop.trips) : Fin 2 → Nat :=
  let c4_i32_107 : BitVec 32 := 4#32
  let v104 : Index := Scalar.indexCast c4_i32_107
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v105 : Index := Scalar.indexCast v84
  ![4, v105.toNat]

def k0_chk165 (v106 : IVec S16 32) : Prop :=
  (∀ a x, ((![v106] : Fin 1 → IVec S16 32) a x).toNat < S16384.size a)
theorem k0_idx165_inb : ∀ (v106 : IVec S16 32) (k0_hw165 : k0_chk165 v106), ∀ a x, ((![v106] : Fin 1 → IVec S16 32) a x).toNat < S16384.size a := fun v106 k0_hw165 => k0_hw165
def k0_off179 (k0_t11 : Fin k0_t11_loop.trips) : Fin 2 → Nat :=
  let c5_i32_108 : BitVec 32 := 5#32
  let v109 : Index := Scalar.indexCast c5_i32_108
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v110 : Index := Scalar.indexCast v84
  ![5, v110.toNat]

def k0_chk166 (v111 : IVec S16 32) : Prop :=
  (∀ a x, ((![v111] : Fin 1 → IVec S16 32) a x).toNat < S16384.size a)
theorem k0_idx166_inb : ∀ (v111 : IVec S16 32) (k0_hw166 : k0_chk166 v111), ∀ a x, ((![v111] : Fin 1 → IVec S16 32) a x).toNat < S16384.size a := fun v111 k0_hw166 => k0_hw166
def k0_off180 (k0_t11 : Fin k0_t11_loop.trips) : Fin 2 → Nat :=
  let c6_i32_109 : BitVec 32 := 6#32
  let v114 : Index := Scalar.indexCast c6_i32_109
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v115 : Index := Scalar.indexCast v84
  ![6, v115.toNat]

def k0_chk167 (v116 : IVec S16 32) : Prop :=
  (∀ a x, ((![v116] : Fin 1 → IVec S16 32) a x).toNat < S16384.size a)
theorem k0_idx167_inb : ∀ (v116 : IVec S16 32) (k0_hw167 : k0_chk167 v116), ∀ a x, ((![v116] : Fin 1 → IVec S16 32) a x).toNat < S16384.size a := fun v116 k0_hw167 => k0_hw167
def k0_off181 (k0_t11 : Fin k0_t11_loop.trips) : Fin 2 → Nat :=
  let c7_i32_110 : BitVec 32 := 7#32
  let v119 : Index := Scalar.indexCast c7_i32_110
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v120 : Index := Scalar.indexCast v84
  ![7, v120.toNat]

def k0_chk168 (v121 : IVec S16 32) : Prop :=
  (∀ a x, ((![v121] : Fin 1 → IVec S16 32) a x).toNat < S16384.size a)
theorem k0_idx168_inb : ∀ (v121 : IVec S16 32) (k0_hw168 : k0_chk168 v121), ∀ a x, ((![v121] : Fin 1 → IVec S16 32) a x).toNat < S16384.size a := fun v121 k0_hw168 => k0_hw168
def k0_off182 (k0_t11 : Fin k0_t11_loop.trips) : Fin 2 → Nat :=
  let c8_i32_111 : BitVec 32 := 8#32
  let v124 : Index := Scalar.indexCast c8_i32_111
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v125 : Index := Scalar.indexCast v84
  ![8, v125.toNat]

def k0_chk169 (v126 : IVec S16 32) : Prop :=
  (∀ a x, ((![v126] : Fin 1 → IVec S16 32) a x).toNat < S16384.size a)
theorem k0_idx169_inb : ∀ (v126 : IVec S16 32) (k0_hw169 : k0_chk169 v126), ∀ a x, ((![v126] : Fin 1 → IVec S16 32) a x).toNat < S16384.size a := fun v126 k0_hw169 => k0_hw169
def k0_off183 (k0_t11 : Fin k0_t11_loop.trips) : Fin 2 → Nat :=
  let c9_i32_112 : BitVec 32 := 9#32
  let v129 : Index := Scalar.indexCast c9_i32_112
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v130 : Index := Scalar.indexCast v84
  ![9, v130.toNat]

def k0_chk170 (v131 : IVec S16 32) : Prop :=
  (∀ a x, ((![v131] : Fin 1 → IVec S16 32) a x).toNat < S16384.size a)
theorem k0_idx170_inb : ∀ (v131 : IVec S16 32) (k0_hw170 : k0_chk170 v131), ∀ a x, ((![v131] : Fin 1 → IVec S16 32) a x).toNat < S16384.size a := fun v131 k0_hw170 => k0_hw170
def k0_off184 (k0_t11 : Fin k0_t11_loop.trips) : Fin 2 → Nat :=
  let c10_i32_113 : BitVec 32 := 10#32
  let v134 : Index := Scalar.indexCast c10_i32_113
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v135 : Index := Scalar.indexCast v84
  ![10, v135.toNat]

def k0_chk171 (v136 : IVec S16 32) : Prop :=
  (∀ a x, ((![v136] : Fin 1 → IVec S16 32) a x).toNat < S16384.size a)
theorem k0_idx171_inb : ∀ (v136 : IVec S16 32) (k0_hw171 : k0_chk171 v136), ∀ a x, ((![v136] : Fin 1 → IVec S16 32) a x).toNat < S16384.size a := fun v136 k0_hw171 => k0_hw171
def k0_off185 (k0_t11 : Fin k0_t11_loop.trips) : Fin 2 → Nat :=
  let c11_i32_114 : BitVec 32 := 11#32
  let v139 : Index := Scalar.indexCast c11_i32_114
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v140 : Index := Scalar.indexCast v84
  ![11, v140.toNat]

def k0_chk172 (v141 : IVec S16 32) : Prop :=
  (∀ a x, ((![v141] : Fin 1 → IVec S16 32) a x).toNat < S16384.size a)
theorem k0_idx172_inb : ∀ (v141 : IVec S16 32) (k0_hw172 : k0_chk172 v141), ∀ a x, ((![v141] : Fin 1 → IVec S16 32) a x).toNat < S16384.size a := fun v141 k0_hw172 => k0_hw172
def k0_off186 (k0_t11 : Fin k0_t11_loop.trips) : Fin 2 → Nat :=
  let c12_i32_115 : BitVec 32 := 12#32
  let v144 : Index := Scalar.indexCast c12_i32_115
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v145 : Index := Scalar.indexCast v84
  ![12, v145.toNat]

def k0_chk173 (v146 : IVec S16 32) : Prop :=
  (∀ a x, ((![v146] : Fin 1 → IVec S16 32) a x).toNat < S16384.size a)
theorem k0_idx173_inb : ∀ (v146 : IVec S16 32) (k0_hw173 : k0_chk173 v146), ∀ a x, ((![v146] : Fin 1 → IVec S16 32) a x).toNat < S16384.size a := fun v146 k0_hw173 => k0_hw173
def k0_off187 (k0_t11 : Fin k0_t11_loop.trips) : Fin 2 → Nat :=
  let c13_i32_116 : BitVec 32 := 13#32
  let v149 : Index := Scalar.indexCast c13_i32_116
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v150 : Index := Scalar.indexCast v84
  ![13, v150.toNat]

def k0_chk174 (v151 : IVec S16 32) : Prop :=
  (∀ a x, ((![v151] : Fin 1 → IVec S16 32) a x).toNat < S16384.size a)
theorem k0_idx174_inb : ∀ (v151 : IVec S16 32) (k0_hw174 : k0_chk174 v151), ∀ a x, ((![v151] : Fin 1 → IVec S16 32) a x).toNat < S16384.size a := fun v151 k0_hw174 => k0_hw174
def k0_off188 (k0_t11 : Fin k0_t11_loop.trips) : Fin 2 → Nat :=
  let c14_i32_117 : BitVec 32 := 14#32
  let v154 : Index := Scalar.indexCast c14_i32_117
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v155 : Index := Scalar.indexCast v84
  ![14, v155.toNat]

def k0_chk175 (v156 : IVec S16 32) : Prop :=
  (∀ a x, ((![v156] : Fin 1 → IVec S16 32) a x).toNat < S16384.size a)
theorem k0_idx175_inb : ∀ (v156 : IVec S16 32) (k0_hw175 : k0_chk175 v156), ∀ a x, ((![v156] : Fin 1 → IVec S16 32) a x).toNat < S16384.size a := fun v156 k0_hw175 => k0_hw175
def k0_off189 (k0_t11 : Fin k0_t11_loop.trips) : Fin 2 → Nat :=
  let c15_i32_118 : BitVec 32 := 15#32
  let v159 : Index := Scalar.indexCast c15_i32_118
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v160 : Index := Scalar.indexCast v84
  ![15, v160.toNat]

def k0_chk176 (v161 : IVec S16 32) : Prop :=
  (∀ a x, ((![v161] : Fin 1 → IVec S16 32) a x).toNat < S16384.size a)
theorem k0_idx176_inb : ∀ (v161 : IVec S16 32) (k0_hw176 : k0_chk176 v161), ∀ a x, ((![v161] : Fin 1 → IVec S16 32) a x).toNat < S16384.size a := fun v161 k0_hw176 => k0_hw176
def k0_off190 (k0_t11 : Fin k0_t11_loop.trips) : Fin 1 → Nat :=
  let c0_i32_68 : BitVec 32 := 0#32
  let c1_i32_70 : BitVec 32 := 1#32
  let arg8 : BitVec 32 := Scf.iv c0_i32_68 c1_i32_70 k0_t11
  let c16_i32_102 : BitVec 32 := 16#32
  let v83 : BitVec 32 := Scalar.muli arg8 c16_i32_102
  let v84 : BitVec 32 := v83
  let v164 : Index := Scalar.indexCast v84
  ![v164.toNat]
@[reducible] def k0_t12_loop : Scf.Loop 32 :=
  let c0_i32_74 : BitVec 32 := 0#32
  let c256_i32_75 : BitVec 32 := 256#32
  let v65 : BitVec 32 := Scalar.addi c0_i32_74 c256_i32_75
  let c1_i32_76 : BitVec 32 := 1#32
  ⟨c0_i32_74, v65, c1_i32_76⟩
def k0_mult12 (k0_t12 : Fin k0_t12_loop.trips) : BitVec 32 :=
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  v83
def k0_off191 (k0_t12 : Fin k0_t12_loop.trips) : Fin 2 → Nat :=
  let c0_i32_103 : BitVec 32 := 0#32
  let v85 : Index := Scalar.indexCast c0_i32_103
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v86 : Index := Scalar.indexCast v84
  ![0, v86.toNat]

def k0_chk177 (v87 : IVec S16 32) : Prop :=
  (∀ a x, ((![v87] : Fin 1 → IVec S16 32) a x).toNat < S16384.size a)
theorem k0_idx177_inb : ∀ (v87 : IVec S16 32) (k0_hw177 : k0_chk177 v87), ∀ a x, ((![v87] : Fin 1 → IVec S16 32) a x).toNat < S16384.size a := fun v87 k0_hw177 => k0_hw177
def k0_off192 (k0_t12 : Fin k0_t12_loop.trips) : Fin 2 → Nat :=
  let c1_i32_104 : BitVec 32 := 1#32
  let v89 : Index := Scalar.indexCast c1_i32_104
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v90 : Index := Scalar.indexCast v84
  ![1, v90.toNat]

def k0_chk178 (v91 : IVec S16 32) : Prop :=
  (∀ a x, ((![v91] : Fin 1 → IVec S16 32) a x).toNat < S16384.size a)
theorem k0_idx178_inb : ∀ (v91 : IVec S16 32) (k0_hw178 : k0_chk178 v91), ∀ a x, ((![v91] : Fin 1 → IVec S16 32) a x).toNat < S16384.size a := fun v91 k0_hw178 => k0_hw178
def k0_off193 (k0_t12 : Fin k0_t12_loop.trips) : Fin 2 → Nat :=
  let c2_i32_105 : BitVec 32 := 2#32
  let v94 : Index := Scalar.indexCast c2_i32_105
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v95 : Index := Scalar.indexCast v84
  ![2, v95.toNat]

def k0_chk179 (v96 : IVec S16 32) : Prop :=
  (∀ a x, ((![v96] : Fin 1 → IVec S16 32) a x).toNat < S16384.size a)
theorem k0_idx179_inb : ∀ (v96 : IVec S16 32) (k0_hw179 : k0_chk179 v96), ∀ a x, ((![v96] : Fin 1 → IVec S16 32) a x).toNat < S16384.size a := fun v96 k0_hw179 => k0_hw179
def k0_off194 (k0_t12 : Fin k0_t12_loop.trips) : Fin 2 → Nat :=
  let c3_i32_106 : BitVec 32 := 3#32
  let v99 : Index := Scalar.indexCast c3_i32_106
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v100 : Index := Scalar.indexCast v84
  ![3, v100.toNat]

def k0_chk180 (v101 : IVec S16 32) : Prop :=
  (∀ a x, ((![v101] : Fin 1 → IVec S16 32) a x).toNat < S16384.size a)
theorem k0_idx180_inb : ∀ (v101 : IVec S16 32) (k0_hw180 : k0_chk180 v101), ∀ a x, ((![v101] : Fin 1 → IVec S16 32) a x).toNat < S16384.size a := fun v101 k0_hw180 => k0_hw180
def k0_off195 (k0_t12 : Fin k0_t12_loop.trips) : Fin 2 → Nat :=
  let c4_i32_107 : BitVec 32 := 4#32
  let v104 : Index := Scalar.indexCast c4_i32_107
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v105 : Index := Scalar.indexCast v84
  ![4, v105.toNat]

def k0_chk181 (v106 : IVec S16 32) : Prop :=
  (∀ a x, ((![v106] : Fin 1 → IVec S16 32) a x).toNat < S16384.size a)
theorem k0_idx181_inb : ∀ (v106 : IVec S16 32) (k0_hw181 : k0_chk181 v106), ∀ a x, ((![v106] : Fin 1 → IVec S16 32) a x).toNat < S16384.size a := fun v106 k0_hw181 => k0_hw181
def k0_off196 (k0_t12 : Fin k0_t12_loop.trips) : Fin 2 → Nat :=
  let c5_i32_108 : BitVec 32 := 5#32
  let v109 : Index := Scalar.indexCast c5_i32_108
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v110 : Index := Scalar.indexCast v84
  ![5, v110.toNat]

def k0_chk182 (v111 : IVec S16 32) : Prop :=
  (∀ a x, ((![v111] : Fin 1 → IVec S16 32) a x).toNat < S16384.size a)
theorem k0_idx182_inb : ∀ (v111 : IVec S16 32) (k0_hw182 : k0_chk182 v111), ∀ a x, ((![v111] : Fin 1 → IVec S16 32) a x).toNat < S16384.size a := fun v111 k0_hw182 => k0_hw182
def k0_off197 (k0_t12 : Fin k0_t12_loop.trips) : Fin 2 → Nat :=
  let c6_i32_109 : BitVec 32 := 6#32
  let v114 : Index := Scalar.indexCast c6_i32_109
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v115 : Index := Scalar.indexCast v84
  ![6, v115.toNat]

def k0_chk183 (v116 : IVec S16 32) : Prop :=
  (∀ a x, ((![v116] : Fin 1 → IVec S16 32) a x).toNat < S16384.size a)
theorem k0_idx183_inb : ∀ (v116 : IVec S16 32) (k0_hw183 : k0_chk183 v116), ∀ a x, ((![v116] : Fin 1 → IVec S16 32) a x).toNat < S16384.size a := fun v116 k0_hw183 => k0_hw183
def k0_off198 (k0_t12 : Fin k0_t12_loop.trips) : Fin 2 → Nat :=
  let c7_i32_110 : BitVec 32 := 7#32
  let v119 : Index := Scalar.indexCast c7_i32_110
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v120 : Index := Scalar.indexCast v84
  ![7, v120.toNat]

def k0_chk184 (v121 : IVec S16 32) : Prop :=
  (∀ a x, ((![v121] : Fin 1 → IVec S16 32) a x).toNat < S16384.size a)
theorem k0_idx184_inb : ∀ (v121 : IVec S16 32) (k0_hw184 : k0_chk184 v121), ∀ a x, ((![v121] : Fin 1 → IVec S16 32) a x).toNat < S16384.size a := fun v121 k0_hw184 => k0_hw184
def k0_off199 (k0_t12 : Fin k0_t12_loop.trips) : Fin 2 → Nat :=
  let c8_i32_111 : BitVec 32 := 8#32
  let v124 : Index := Scalar.indexCast c8_i32_111
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v125 : Index := Scalar.indexCast v84
  ![8, v125.toNat]

def k0_chk185 (v126 : IVec S16 32) : Prop :=
  (∀ a x, ((![v126] : Fin 1 → IVec S16 32) a x).toNat < S16384.size a)
theorem k0_idx185_inb : ∀ (v126 : IVec S16 32) (k0_hw185 : k0_chk185 v126), ∀ a x, ((![v126] : Fin 1 → IVec S16 32) a x).toNat < S16384.size a := fun v126 k0_hw185 => k0_hw185
def k0_off200 (k0_t12 : Fin k0_t12_loop.trips) : Fin 2 → Nat :=
  let c9_i32_112 : BitVec 32 := 9#32
  let v129 : Index := Scalar.indexCast c9_i32_112
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v130 : Index := Scalar.indexCast v84
  ![9, v130.toNat]

def k0_chk186 (v131 : IVec S16 32) : Prop :=
  (∀ a x, ((![v131] : Fin 1 → IVec S16 32) a x).toNat < S16384.size a)
theorem k0_idx186_inb : ∀ (v131 : IVec S16 32) (k0_hw186 : k0_chk186 v131), ∀ a x, ((![v131] : Fin 1 → IVec S16 32) a x).toNat < S16384.size a := fun v131 k0_hw186 => k0_hw186
def k0_off201 (k0_t12 : Fin k0_t12_loop.trips) : Fin 2 → Nat :=
  let c10_i32_113 : BitVec 32 := 10#32
  let v134 : Index := Scalar.indexCast c10_i32_113
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v135 : Index := Scalar.indexCast v84
  ![10, v135.toNat]

def k0_chk187 (v136 : IVec S16 32) : Prop :=
  (∀ a x, ((![v136] : Fin 1 → IVec S16 32) a x).toNat < S16384.size a)
theorem k0_idx187_inb : ∀ (v136 : IVec S16 32) (k0_hw187 : k0_chk187 v136), ∀ a x, ((![v136] : Fin 1 → IVec S16 32) a x).toNat < S16384.size a := fun v136 k0_hw187 => k0_hw187
def k0_off202 (k0_t12 : Fin k0_t12_loop.trips) : Fin 2 → Nat :=
  let c11_i32_114 : BitVec 32 := 11#32
  let v139 : Index := Scalar.indexCast c11_i32_114
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v140 : Index := Scalar.indexCast v84
  ![11, v140.toNat]

def k0_chk188 (v141 : IVec S16 32) : Prop :=
  (∀ a x, ((![v141] : Fin 1 → IVec S16 32) a x).toNat < S16384.size a)
theorem k0_idx188_inb : ∀ (v141 : IVec S16 32) (k0_hw188 : k0_chk188 v141), ∀ a x, ((![v141] : Fin 1 → IVec S16 32) a x).toNat < S16384.size a := fun v141 k0_hw188 => k0_hw188
def k0_off203 (k0_t12 : Fin k0_t12_loop.trips) : Fin 2 → Nat :=
  let c12_i32_115 : BitVec 32 := 12#32
  let v144 : Index := Scalar.indexCast c12_i32_115
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v145 : Index := Scalar.indexCast v84
  ![12, v145.toNat]

def k0_chk189 (v146 : IVec S16 32) : Prop :=
  (∀ a x, ((![v146] : Fin 1 → IVec S16 32) a x).toNat < S16384.size a)
theorem k0_idx189_inb : ∀ (v146 : IVec S16 32) (k0_hw189 : k0_chk189 v146), ∀ a x, ((![v146] : Fin 1 → IVec S16 32) a x).toNat < S16384.size a := fun v146 k0_hw189 => k0_hw189
def k0_off204 (k0_t12 : Fin k0_t12_loop.trips) : Fin 2 → Nat :=
  let c13_i32_116 : BitVec 32 := 13#32
  let v149 : Index := Scalar.indexCast c13_i32_116
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v150 : Index := Scalar.indexCast v84
  ![13, v150.toNat]

def k0_chk190 (v151 : IVec S16 32) : Prop :=
  (∀ a x, ((![v151] : Fin 1 → IVec S16 32) a x).toNat < S16384.size a)
theorem k0_idx190_inb : ∀ (v151 : IVec S16 32) (k0_hw190 : k0_chk190 v151), ∀ a x, ((![v151] : Fin 1 → IVec S16 32) a x).toNat < S16384.size a := fun v151 k0_hw190 => k0_hw190
def k0_off205 (k0_t12 : Fin k0_t12_loop.trips) : Fin 2 → Nat :=
  let c14_i32_117 : BitVec 32 := 14#32
  let v154 : Index := Scalar.indexCast c14_i32_117
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v155 : Index := Scalar.indexCast v84
  ![14, v155.toNat]

def k0_chk191 (v156 : IVec S16 32) : Prop :=
  (∀ a x, ((![v156] : Fin 1 → IVec S16 32) a x).toNat < S16384.size a)
theorem k0_idx191_inb : ∀ (v156 : IVec S16 32) (k0_hw191 : k0_chk191 v156), ∀ a x, ((![v156] : Fin 1 → IVec S16 32) a x).toNat < S16384.size a := fun v156 k0_hw191 => k0_hw191
def k0_off206 (k0_t12 : Fin k0_t12_loop.trips) : Fin 2 → Nat :=
  let c15_i32_118 : BitVec 32 := 15#32
  let v159 : Index := Scalar.indexCast c15_i32_118
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v160 : Index := Scalar.indexCast v84
  ![15, v160.toNat]

def k0_chk192 (v161 : IVec S16 32) : Prop :=
  (∀ a x, ((![v161] : Fin 1 → IVec S16 32) a x).toNat < S16384.size a)
theorem k0_idx192_inb : ∀ (v161 : IVec S16 32) (k0_hw192 : k0_chk192 v161), ∀ a x, ((![v161] : Fin 1 → IVec S16 32) a x).toNat < S16384.size a := fun v161 k0_hw192 => k0_hw192
def k0_off207 (k0_t12 : Fin k0_t12_loop.trips) : Fin 1 → Nat :=
  let c0_i32_74 : BitVec 32 := 0#32
  let c1_i32_76 : BitVec 32 := 1#32
  let arg8 : BitVec 32 := Scf.iv c0_i32_74 c1_i32_76 k0_t12
  let c16_i32_102 : BitVec 32 := 16#32
  let v83 : BitVec 32 := Scalar.muli arg8 c16_i32_102
  let v84 : BitVec 32 := v83
  let v164 : Index := Scalar.indexCast v84
  ![v164.toNat]
@[reducible] def k0_t13_loop : Scf.Loop 32 :=
  let c0_i32_80 : BitVec 32 := 0#32
  let c256_i32_81 : BitVec 32 := 256#32
  let v69 : BitVec 32 := Scalar.addi c0_i32_80 c256_i32_81
  let c1_i32_82 : BitVec 32 := 1#32
  ⟨c0_i32_80, v69, c1_i32_82⟩
def k0_mult13 (k0_t13 : Fin k0_t13_loop.trips) : BitVec 32 :=
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  v83
def k0_off208 (k0_t13 : Fin k0_t13_loop.trips) : Fin 2 → Nat :=
  let c0_i32_103 : BitVec 32 := 0#32
  let v85 : Index := Scalar.indexCast c0_i32_103
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v86 : Index := Scalar.indexCast v84
  ![0, v86.toNat]

def k0_chk193 (v87 : IVec S16 32) : Prop :=
  (∀ a x, ((![v87] : Fin 1 → IVec S16 32) a x).toNat < S16384.size a)
theorem k0_idx193_inb : ∀ (v87 : IVec S16 32) (k0_hw193 : k0_chk193 v87), ∀ a x, ((![v87] : Fin 1 → IVec S16 32) a x).toNat < S16384.size a := fun v87 k0_hw193 => k0_hw193
def k0_off209 (k0_t13 : Fin k0_t13_loop.trips) : Fin 2 → Nat :=
  let c1_i32_104 : BitVec 32 := 1#32
  let v89 : Index := Scalar.indexCast c1_i32_104
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v90 : Index := Scalar.indexCast v84
  ![1, v90.toNat]

def k0_chk194 (v91 : IVec S16 32) : Prop :=
  (∀ a x, ((![v91] : Fin 1 → IVec S16 32) a x).toNat < S16384.size a)
theorem k0_idx194_inb : ∀ (v91 : IVec S16 32) (k0_hw194 : k0_chk194 v91), ∀ a x, ((![v91] : Fin 1 → IVec S16 32) a x).toNat < S16384.size a := fun v91 k0_hw194 => k0_hw194
def k0_off210 (k0_t13 : Fin k0_t13_loop.trips) : Fin 2 → Nat :=
  let c2_i32_105 : BitVec 32 := 2#32
  let v94 : Index := Scalar.indexCast c2_i32_105
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v95 : Index := Scalar.indexCast v84
  ![2, v95.toNat]

def k0_chk195 (v96 : IVec S16 32) : Prop :=
  (∀ a x, ((![v96] : Fin 1 → IVec S16 32) a x).toNat < S16384.size a)
theorem k0_idx195_inb : ∀ (v96 : IVec S16 32) (k0_hw195 : k0_chk195 v96), ∀ a x, ((![v96] : Fin 1 → IVec S16 32) a x).toNat < S16384.size a := fun v96 k0_hw195 => k0_hw195
def k0_off211 (k0_t13 : Fin k0_t13_loop.trips) : Fin 2 → Nat :=
  let c3_i32_106 : BitVec 32 := 3#32
  let v99 : Index := Scalar.indexCast c3_i32_106
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v100 : Index := Scalar.indexCast v84
  ![3, v100.toNat]

def k0_chk196 (v101 : IVec S16 32) : Prop :=
  (∀ a x, ((![v101] : Fin 1 → IVec S16 32) a x).toNat < S16384.size a)
theorem k0_idx196_inb : ∀ (v101 : IVec S16 32) (k0_hw196 : k0_chk196 v101), ∀ a x, ((![v101] : Fin 1 → IVec S16 32) a x).toNat < S16384.size a := fun v101 k0_hw196 => k0_hw196
def k0_off212 (k0_t13 : Fin k0_t13_loop.trips) : Fin 2 → Nat :=
  let c4_i32_107 : BitVec 32 := 4#32
  let v104 : Index := Scalar.indexCast c4_i32_107
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v105 : Index := Scalar.indexCast v84
  ![4, v105.toNat]

def k0_chk197 (v106 : IVec S16 32) : Prop :=
  (∀ a x, ((![v106] : Fin 1 → IVec S16 32) a x).toNat < S16384.size a)
theorem k0_idx197_inb : ∀ (v106 : IVec S16 32) (k0_hw197 : k0_chk197 v106), ∀ a x, ((![v106] : Fin 1 → IVec S16 32) a x).toNat < S16384.size a := fun v106 k0_hw197 => k0_hw197
def k0_off213 (k0_t13 : Fin k0_t13_loop.trips) : Fin 2 → Nat :=
  let c5_i32_108 : BitVec 32 := 5#32
  let v109 : Index := Scalar.indexCast c5_i32_108
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v110 : Index := Scalar.indexCast v84
  ![5, v110.toNat]

def k0_chk198 (v111 : IVec S16 32) : Prop :=
  (∀ a x, ((![v111] : Fin 1 → IVec S16 32) a x).toNat < S16384.size a)
theorem k0_idx198_inb : ∀ (v111 : IVec S16 32) (k0_hw198 : k0_chk198 v111), ∀ a x, ((![v111] : Fin 1 → IVec S16 32) a x).toNat < S16384.size a := fun v111 k0_hw198 => k0_hw198
def k0_off214 (k0_t13 : Fin k0_t13_loop.trips) : Fin 2 → Nat :=
  let c6_i32_109 : BitVec 32 := 6#32
  let v114 : Index := Scalar.indexCast c6_i32_109
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v115 : Index := Scalar.indexCast v84
  ![6, v115.toNat]

def k0_chk199 (v116 : IVec S16 32) : Prop :=
  (∀ a x, ((![v116] : Fin 1 → IVec S16 32) a x).toNat < S16384.size a)
theorem k0_idx199_inb : ∀ (v116 : IVec S16 32) (k0_hw199 : k0_chk199 v116), ∀ a x, ((![v116] : Fin 1 → IVec S16 32) a x).toNat < S16384.size a := fun v116 k0_hw199 => k0_hw199
def k0_off215 (k0_t13 : Fin k0_t13_loop.trips) : Fin 2 → Nat :=
  let c7_i32_110 : BitVec 32 := 7#32
  let v119 : Index := Scalar.indexCast c7_i32_110
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v120 : Index := Scalar.indexCast v84
  ![7, v120.toNat]

def k0_chk200 (v121 : IVec S16 32) : Prop :=
  (∀ a x, ((![v121] : Fin 1 → IVec S16 32) a x).toNat < S16384.size a)
theorem k0_idx200_inb : ∀ (v121 : IVec S16 32) (k0_hw200 : k0_chk200 v121), ∀ a x, ((![v121] : Fin 1 → IVec S16 32) a x).toNat < S16384.size a := fun v121 k0_hw200 => k0_hw200
def k0_off216 (k0_t13 : Fin k0_t13_loop.trips) : Fin 2 → Nat :=
  let c8_i32_111 : BitVec 32 := 8#32
  let v124 : Index := Scalar.indexCast c8_i32_111
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v125 : Index := Scalar.indexCast v84
  ![8, v125.toNat]

def k0_chk201 (v126 : IVec S16 32) : Prop :=
  (∀ a x, ((![v126] : Fin 1 → IVec S16 32) a x).toNat < S16384.size a)
theorem k0_idx201_inb : ∀ (v126 : IVec S16 32) (k0_hw201 : k0_chk201 v126), ∀ a x, ((![v126] : Fin 1 → IVec S16 32) a x).toNat < S16384.size a := fun v126 k0_hw201 => k0_hw201
def k0_off217 (k0_t13 : Fin k0_t13_loop.trips) : Fin 2 → Nat :=
  let c9_i32_112 : BitVec 32 := 9#32
  let v129 : Index := Scalar.indexCast c9_i32_112
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v130 : Index := Scalar.indexCast v84
  ![9, v130.toNat]

def k0_chk202 (v131 : IVec S16 32) : Prop :=
  (∀ a x, ((![v131] : Fin 1 → IVec S16 32) a x).toNat < S16384.size a)
theorem k0_idx202_inb : ∀ (v131 : IVec S16 32) (k0_hw202 : k0_chk202 v131), ∀ a x, ((![v131] : Fin 1 → IVec S16 32) a x).toNat < S16384.size a := fun v131 k0_hw202 => k0_hw202
def k0_off218 (k0_t13 : Fin k0_t13_loop.trips) : Fin 2 → Nat :=
  let c10_i32_113 : BitVec 32 := 10#32
  let v134 : Index := Scalar.indexCast c10_i32_113
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v135 : Index := Scalar.indexCast v84
  ![10, v135.toNat]

def k0_chk203 (v136 : IVec S16 32) : Prop :=
  (∀ a x, ((![v136] : Fin 1 → IVec S16 32) a x).toNat < S16384.size a)
theorem k0_idx203_inb : ∀ (v136 : IVec S16 32) (k0_hw203 : k0_chk203 v136), ∀ a x, ((![v136] : Fin 1 → IVec S16 32) a x).toNat < S16384.size a := fun v136 k0_hw203 => k0_hw203
def k0_off219 (k0_t13 : Fin k0_t13_loop.trips) : Fin 2 → Nat :=
  let c11_i32_114 : BitVec 32 := 11#32
  let v139 : Index := Scalar.indexCast c11_i32_114
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v140 : Index := Scalar.indexCast v84
  ![11, v140.toNat]

def k0_chk204 (v141 : IVec S16 32) : Prop :=
  (∀ a x, ((![v141] : Fin 1 → IVec S16 32) a x).toNat < S16384.size a)
theorem k0_idx204_inb : ∀ (v141 : IVec S16 32) (k0_hw204 : k0_chk204 v141), ∀ a x, ((![v141] : Fin 1 → IVec S16 32) a x).toNat < S16384.size a := fun v141 k0_hw204 => k0_hw204
def k0_off220 (k0_t13 : Fin k0_t13_loop.trips) : Fin 2 → Nat :=
  let c12_i32_115 : BitVec 32 := 12#32
  let v144 : Index := Scalar.indexCast c12_i32_115
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v145 : Index := Scalar.indexCast v84
  ![12, v145.toNat]

def k0_chk205 (v146 : IVec S16 32) : Prop :=
  (∀ a x, ((![v146] : Fin 1 → IVec S16 32) a x).toNat < S16384.size a)
theorem k0_idx205_inb : ∀ (v146 : IVec S16 32) (k0_hw205 : k0_chk205 v146), ∀ a x, ((![v146] : Fin 1 → IVec S16 32) a x).toNat < S16384.size a := fun v146 k0_hw205 => k0_hw205
def k0_off221 (k0_t13 : Fin k0_t13_loop.trips) : Fin 2 → Nat :=
  let c13_i32_116 : BitVec 32 := 13#32
  let v149 : Index := Scalar.indexCast c13_i32_116
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v150 : Index := Scalar.indexCast v84
  ![13, v150.toNat]

def k0_chk206 (v151 : IVec S16 32) : Prop :=
  (∀ a x, ((![v151] : Fin 1 → IVec S16 32) a x).toNat < S16384.size a)
theorem k0_idx206_inb : ∀ (v151 : IVec S16 32) (k0_hw206 : k0_chk206 v151), ∀ a x, ((![v151] : Fin 1 → IVec S16 32) a x).toNat < S16384.size a := fun v151 k0_hw206 => k0_hw206
def k0_off222 (k0_t13 : Fin k0_t13_loop.trips) : Fin 2 → Nat :=
  let c14_i32_117 : BitVec 32 := 14#32
  let v154 : Index := Scalar.indexCast c14_i32_117
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v155 : Index := Scalar.indexCast v84
  ![14, v155.toNat]

def k0_chk207 (v156 : IVec S16 32) : Prop :=
  (∀ a x, ((![v156] : Fin 1 → IVec S16 32) a x).toNat < S16384.size a)
theorem k0_idx207_inb : ∀ (v156 : IVec S16 32) (k0_hw207 : k0_chk207 v156), ∀ a x, ((![v156] : Fin 1 → IVec S16 32) a x).toNat < S16384.size a := fun v156 k0_hw207 => k0_hw207
def k0_off223 (k0_t13 : Fin k0_t13_loop.trips) : Fin 2 → Nat :=
  let c15_i32_118 : BitVec 32 := 15#32
  let v159 : Index := Scalar.indexCast c15_i32_118
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v160 : Index := Scalar.indexCast v84
  ![15, v160.toNat]

def k0_chk208 (v161 : IVec S16 32) : Prop :=
  (∀ a x, ((![v161] : Fin 1 → IVec S16 32) a x).toNat < S16384.size a)
theorem k0_idx208_inb : ∀ (v161 : IVec S16 32) (k0_hw208 : k0_chk208 v161), ∀ a x, ((![v161] : Fin 1 → IVec S16 32) a x).toNat < S16384.size a := fun v161 k0_hw208 => k0_hw208
def k0_off224 (k0_t13 : Fin k0_t13_loop.trips) : Fin 1 → Nat :=
  let c0_i32_80 : BitVec 32 := 0#32
  let c1_i32_82 : BitVec 32 := 1#32
  let arg8 : BitVec 32 := Scf.iv c0_i32_80 c1_i32_82 k0_t13
  let c16_i32_102 : BitVec 32 := 16#32
  let v83 : BitVec 32 := Scalar.muli arg8 c16_i32_102
  let v84 : BitVec 32 := v83
  let v164 : Index := Scalar.indexCast v84
  ![v164.toNat]
@[reducible] def k0_t14_loop : Scf.Loop 32 :=
  let c0_i32_86 : BitVec 32 := 0#32
  let c256_i32_87 : BitVec 32 := 256#32
  let v73 : BitVec 32 := Scalar.addi c0_i32_86 c256_i32_87
  let c1_i32_88 : BitVec 32 := 1#32
  ⟨c0_i32_86, v73, c1_i32_88⟩
def k0_mult14 (k0_t14 : Fin k0_t14_loop.trips) : BitVec 32 :=
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  v83
def k0_off225 (k0_t14 : Fin k0_t14_loop.trips) : Fin 2 → Nat :=
  let c0_i32_103 : BitVec 32 := 0#32
  let v85 : Index := Scalar.indexCast c0_i32_103
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v86 : Index := Scalar.indexCast v84
  ![0, v86.toNat]

def k0_chk209 (v87 : IVec S16 32) : Prop :=
  (∀ a x, ((![v87] : Fin 1 → IVec S16 32) a x).toNat < S16384.size a)
theorem k0_idx209_inb : ∀ (v87 : IVec S16 32) (k0_hw209 : k0_chk209 v87), ∀ a x, ((![v87] : Fin 1 → IVec S16 32) a x).toNat < S16384.size a := fun v87 k0_hw209 => k0_hw209
def k0_off226 (k0_t14 : Fin k0_t14_loop.trips) : Fin 2 → Nat :=
  let c1_i32_104 : BitVec 32 := 1#32
  let v89 : Index := Scalar.indexCast c1_i32_104
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v90 : Index := Scalar.indexCast v84
  ![1, v90.toNat]

def k0_chk210 (v91 : IVec S16 32) : Prop :=
  (∀ a x, ((![v91] : Fin 1 → IVec S16 32) a x).toNat < S16384.size a)
theorem k0_idx210_inb : ∀ (v91 : IVec S16 32) (k0_hw210 : k0_chk210 v91), ∀ a x, ((![v91] : Fin 1 → IVec S16 32) a x).toNat < S16384.size a := fun v91 k0_hw210 => k0_hw210
def k0_off227 (k0_t14 : Fin k0_t14_loop.trips) : Fin 2 → Nat :=
  let c2_i32_105 : BitVec 32 := 2#32
  let v94 : Index := Scalar.indexCast c2_i32_105
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v95 : Index := Scalar.indexCast v84
  ![2, v95.toNat]

def k0_chk211 (v96 : IVec S16 32) : Prop :=
  (∀ a x, ((![v96] : Fin 1 → IVec S16 32) a x).toNat < S16384.size a)
theorem k0_idx211_inb : ∀ (v96 : IVec S16 32) (k0_hw211 : k0_chk211 v96), ∀ a x, ((![v96] : Fin 1 → IVec S16 32) a x).toNat < S16384.size a := fun v96 k0_hw211 => k0_hw211
def k0_off228 (k0_t14 : Fin k0_t14_loop.trips) : Fin 2 → Nat :=
  let c3_i32_106 : BitVec 32 := 3#32
  let v99 : Index := Scalar.indexCast c3_i32_106
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v100 : Index := Scalar.indexCast v84
  ![3, v100.toNat]

def k0_chk212 (v101 : IVec S16 32) : Prop :=
  (∀ a x, ((![v101] : Fin 1 → IVec S16 32) a x).toNat < S16384.size a)
theorem k0_idx212_inb : ∀ (v101 : IVec S16 32) (k0_hw212 : k0_chk212 v101), ∀ a x, ((![v101] : Fin 1 → IVec S16 32) a x).toNat < S16384.size a := fun v101 k0_hw212 => k0_hw212
def k0_off229 (k0_t14 : Fin k0_t14_loop.trips) : Fin 2 → Nat :=
  let c4_i32_107 : BitVec 32 := 4#32
  let v104 : Index := Scalar.indexCast c4_i32_107
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v105 : Index := Scalar.indexCast v84
  ![4, v105.toNat]

def k0_chk213 (v106 : IVec S16 32) : Prop :=
  (∀ a x, ((![v106] : Fin 1 → IVec S16 32) a x).toNat < S16384.size a)
theorem k0_idx213_inb : ∀ (v106 : IVec S16 32) (k0_hw213 : k0_chk213 v106), ∀ a x, ((![v106] : Fin 1 → IVec S16 32) a x).toNat < S16384.size a := fun v106 k0_hw213 => k0_hw213
def k0_off230 (k0_t14 : Fin k0_t14_loop.trips) : Fin 2 → Nat :=
  let c5_i32_108 : BitVec 32 := 5#32
  let v109 : Index := Scalar.indexCast c5_i32_108
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v110 : Index := Scalar.indexCast v84
  ![5, v110.toNat]

def k0_chk214 (v111 : IVec S16 32) : Prop :=
  (∀ a x, ((![v111] : Fin 1 → IVec S16 32) a x).toNat < S16384.size a)
theorem k0_idx214_inb : ∀ (v111 : IVec S16 32) (k0_hw214 : k0_chk214 v111), ∀ a x, ((![v111] : Fin 1 → IVec S16 32) a x).toNat < S16384.size a := fun v111 k0_hw214 => k0_hw214
def k0_off231 (k0_t14 : Fin k0_t14_loop.trips) : Fin 2 → Nat :=
  let c6_i32_109 : BitVec 32 := 6#32
  let v114 : Index := Scalar.indexCast c6_i32_109
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v115 : Index := Scalar.indexCast v84
  ![6, v115.toNat]

def k0_chk215 (v116 : IVec S16 32) : Prop :=
  (∀ a x, ((![v116] : Fin 1 → IVec S16 32) a x).toNat < S16384.size a)
theorem k0_idx215_inb : ∀ (v116 : IVec S16 32) (k0_hw215 : k0_chk215 v116), ∀ a x, ((![v116] : Fin 1 → IVec S16 32) a x).toNat < S16384.size a := fun v116 k0_hw215 => k0_hw215
def k0_off232 (k0_t14 : Fin k0_t14_loop.trips) : Fin 2 → Nat :=
  let c7_i32_110 : BitVec 32 := 7#32
  let v119 : Index := Scalar.indexCast c7_i32_110
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v120 : Index := Scalar.indexCast v84
  ![7, v120.toNat]

def k0_chk216 (v121 : IVec S16 32) : Prop :=
  (∀ a x, ((![v121] : Fin 1 → IVec S16 32) a x).toNat < S16384.size a)
theorem k0_idx216_inb : ∀ (v121 : IVec S16 32) (k0_hw216 : k0_chk216 v121), ∀ a x, ((![v121] : Fin 1 → IVec S16 32) a x).toNat < S16384.size a := fun v121 k0_hw216 => k0_hw216
def k0_off233 (k0_t14 : Fin k0_t14_loop.trips) : Fin 2 → Nat :=
  let c8_i32_111 : BitVec 32 := 8#32
  let v124 : Index := Scalar.indexCast c8_i32_111
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v125 : Index := Scalar.indexCast v84
  ![8, v125.toNat]

def k0_chk217 (v126 : IVec S16 32) : Prop :=
  (∀ a x, ((![v126] : Fin 1 → IVec S16 32) a x).toNat < S16384.size a)
theorem k0_idx217_inb : ∀ (v126 : IVec S16 32) (k0_hw217 : k0_chk217 v126), ∀ a x, ((![v126] : Fin 1 → IVec S16 32) a x).toNat < S16384.size a := fun v126 k0_hw217 => k0_hw217
def k0_off234 (k0_t14 : Fin k0_t14_loop.trips) : Fin 2 → Nat :=
  let c9_i32_112 : BitVec 32 := 9#32
  let v129 : Index := Scalar.indexCast c9_i32_112
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v130 : Index := Scalar.indexCast v84
  ![9, v130.toNat]

def k0_chk218 (v131 : IVec S16 32) : Prop :=
  (∀ a x, ((![v131] : Fin 1 → IVec S16 32) a x).toNat < S16384.size a)
theorem k0_idx218_inb : ∀ (v131 : IVec S16 32) (k0_hw218 : k0_chk218 v131), ∀ a x, ((![v131] : Fin 1 → IVec S16 32) a x).toNat < S16384.size a := fun v131 k0_hw218 => k0_hw218
def k0_off235 (k0_t14 : Fin k0_t14_loop.trips) : Fin 2 → Nat :=
  let c10_i32_113 : BitVec 32 := 10#32
  let v134 : Index := Scalar.indexCast c10_i32_113
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v135 : Index := Scalar.indexCast v84
  ![10, v135.toNat]

def k0_chk219 (v136 : IVec S16 32) : Prop :=
  (∀ a x, ((![v136] : Fin 1 → IVec S16 32) a x).toNat < S16384.size a)
theorem k0_idx219_inb : ∀ (v136 : IVec S16 32) (k0_hw219 : k0_chk219 v136), ∀ a x, ((![v136] : Fin 1 → IVec S16 32) a x).toNat < S16384.size a := fun v136 k0_hw219 => k0_hw219
def k0_off236 (k0_t14 : Fin k0_t14_loop.trips) : Fin 2 → Nat :=
  let c11_i32_114 : BitVec 32 := 11#32
  let v139 : Index := Scalar.indexCast c11_i32_114
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v140 : Index := Scalar.indexCast v84
  ![11, v140.toNat]

def k0_chk220 (v141 : IVec S16 32) : Prop :=
  (∀ a x, ((![v141] : Fin 1 → IVec S16 32) a x).toNat < S16384.size a)
theorem k0_idx220_inb : ∀ (v141 : IVec S16 32) (k0_hw220 : k0_chk220 v141), ∀ a x, ((![v141] : Fin 1 → IVec S16 32) a x).toNat < S16384.size a := fun v141 k0_hw220 => k0_hw220
def k0_off237 (k0_t14 : Fin k0_t14_loop.trips) : Fin 2 → Nat :=
  let c12_i32_115 : BitVec 32 := 12#32
  let v144 : Index := Scalar.indexCast c12_i32_115
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v145 : Index := Scalar.indexCast v84
  ![12, v145.toNat]

def k0_chk221 (v146 : IVec S16 32) : Prop :=
  (∀ a x, ((![v146] : Fin 1 → IVec S16 32) a x).toNat < S16384.size a)
theorem k0_idx221_inb : ∀ (v146 : IVec S16 32) (k0_hw221 : k0_chk221 v146), ∀ a x, ((![v146] : Fin 1 → IVec S16 32) a x).toNat < S16384.size a := fun v146 k0_hw221 => k0_hw221
def k0_off238 (k0_t14 : Fin k0_t14_loop.trips) : Fin 2 → Nat :=
  let c13_i32_116 : BitVec 32 := 13#32
  let v149 : Index := Scalar.indexCast c13_i32_116
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v150 : Index := Scalar.indexCast v84
  ![13, v150.toNat]

def k0_chk222 (v151 : IVec S16 32) : Prop :=
  (∀ a x, ((![v151] : Fin 1 → IVec S16 32) a x).toNat < S16384.size a)
theorem k0_idx222_inb : ∀ (v151 : IVec S16 32) (k0_hw222 : k0_chk222 v151), ∀ a x, ((![v151] : Fin 1 → IVec S16 32) a x).toNat < S16384.size a := fun v151 k0_hw222 => k0_hw222
def k0_off239 (k0_t14 : Fin k0_t14_loop.trips) : Fin 2 → Nat :=
  let c14_i32_117 : BitVec 32 := 14#32
  let v154 : Index := Scalar.indexCast c14_i32_117
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v155 : Index := Scalar.indexCast v84
  ![14, v155.toNat]

def k0_chk223 (v156 : IVec S16 32) : Prop :=
  (∀ a x, ((![v156] : Fin 1 → IVec S16 32) a x).toNat < S16384.size a)
theorem k0_idx223_inb : ∀ (v156 : IVec S16 32) (k0_hw223 : k0_chk223 v156), ∀ a x, ((![v156] : Fin 1 → IVec S16 32) a x).toNat < S16384.size a := fun v156 k0_hw223 => k0_hw223
def k0_off240 (k0_t14 : Fin k0_t14_loop.trips) : Fin 2 → Nat :=
  let c15_i32_118 : BitVec 32 := 15#32
  let v159 : Index := Scalar.indexCast c15_i32_118
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v160 : Index := Scalar.indexCast v84
  ![15, v160.toNat]

def k0_chk224 (v161 : IVec S16 32) : Prop :=
  (∀ a x, ((![v161] : Fin 1 → IVec S16 32) a x).toNat < S16384.size a)
theorem k0_idx224_inb : ∀ (v161 : IVec S16 32) (k0_hw224 : k0_chk224 v161), ∀ a x, ((![v161] : Fin 1 → IVec S16 32) a x).toNat < S16384.size a := fun v161 k0_hw224 => k0_hw224
def k0_off241 (k0_t14 : Fin k0_t14_loop.trips) : Fin 1 → Nat :=
  let c0_i32_86 : BitVec 32 := 0#32
  let c1_i32_88 : BitVec 32 := 1#32
  let arg8 : BitVec 32 := Scf.iv c0_i32_86 c1_i32_88 k0_t14
  let c16_i32_102 : BitVec 32 := 16#32
  let v83 : BitVec 32 := Scalar.muli arg8 c16_i32_102
  let v84 : BitVec 32 := v83
  let v164 : Index := Scalar.indexCast v84
  ![v164.toNat]
@[reducible] def k0_t15_loop : Scf.Loop 32 :=
  let c0_i32_92 : BitVec 32 := 0#32
  let c256_i32_93 : BitVec 32 := 256#32
  let v77 : BitVec 32 := Scalar.addi c0_i32_92 c256_i32_93
  let c1_i32_94 : BitVec 32 := 1#32
  ⟨c0_i32_92, v77, c1_i32_94⟩
def k0_mult15 (k0_t15 : Fin k0_t15_loop.trips) : BitVec 32 :=
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  v83
def k0_off242 (k0_t15 : Fin k0_t15_loop.trips) : Fin 2 → Nat :=
  let c0_i32_103 : BitVec 32 := 0#32
  let v85 : Index := Scalar.indexCast c0_i32_103
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v86 : Index := Scalar.indexCast v84
  ![0, v86.toNat]

def k0_chk225 (v87 : IVec S16 32) : Prop :=
  (∀ a x, ((![v87] : Fin 1 → IVec S16 32) a x).toNat < S16384.size a)
theorem k0_idx225_inb : ∀ (v87 : IVec S16 32) (k0_hw225 : k0_chk225 v87), ∀ a x, ((![v87] : Fin 1 → IVec S16 32) a x).toNat < S16384.size a := fun v87 k0_hw225 => k0_hw225
def k0_off243 (k0_t15 : Fin k0_t15_loop.trips) : Fin 2 → Nat :=
  let c1_i32_104 : BitVec 32 := 1#32
  let v89 : Index := Scalar.indexCast c1_i32_104
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v90 : Index := Scalar.indexCast v84
  ![1, v90.toNat]

def k0_chk226 (v91 : IVec S16 32) : Prop :=
  (∀ a x, ((![v91] : Fin 1 → IVec S16 32) a x).toNat < S16384.size a)
theorem k0_idx226_inb : ∀ (v91 : IVec S16 32) (k0_hw226 : k0_chk226 v91), ∀ a x, ((![v91] : Fin 1 → IVec S16 32) a x).toNat < S16384.size a := fun v91 k0_hw226 => k0_hw226
def k0_off244 (k0_t15 : Fin k0_t15_loop.trips) : Fin 2 → Nat :=
  let c2_i32_105 : BitVec 32 := 2#32
  let v94 : Index := Scalar.indexCast c2_i32_105
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v95 : Index := Scalar.indexCast v84
  ![2, v95.toNat]

def k0_chk227 (v96 : IVec S16 32) : Prop :=
  (∀ a x, ((![v96] : Fin 1 → IVec S16 32) a x).toNat < S16384.size a)
theorem k0_idx227_inb : ∀ (v96 : IVec S16 32) (k0_hw227 : k0_chk227 v96), ∀ a x, ((![v96] : Fin 1 → IVec S16 32) a x).toNat < S16384.size a := fun v96 k0_hw227 => k0_hw227
def k0_off245 (k0_t15 : Fin k0_t15_loop.trips) : Fin 2 → Nat :=
  let c3_i32_106 : BitVec 32 := 3#32
  let v99 : Index := Scalar.indexCast c3_i32_106
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v100 : Index := Scalar.indexCast v84
  ![3, v100.toNat]

def k0_chk228 (v101 : IVec S16 32) : Prop :=
  (∀ a x, ((![v101] : Fin 1 → IVec S16 32) a x).toNat < S16384.size a)
theorem k0_idx228_inb : ∀ (v101 : IVec S16 32) (k0_hw228 : k0_chk228 v101), ∀ a x, ((![v101] : Fin 1 → IVec S16 32) a x).toNat < S16384.size a := fun v101 k0_hw228 => k0_hw228
def k0_off246 (k0_t15 : Fin k0_t15_loop.trips) : Fin 2 → Nat :=
  let c4_i32_107 : BitVec 32 := 4#32
  let v104 : Index := Scalar.indexCast c4_i32_107
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v105 : Index := Scalar.indexCast v84
  ![4, v105.toNat]

def k0_chk229 (v106 : IVec S16 32) : Prop :=
  (∀ a x, ((![v106] : Fin 1 → IVec S16 32) a x).toNat < S16384.size a)
theorem k0_idx229_inb : ∀ (v106 : IVec S16 32) (k0_hw229 : k0_chk229 v106), ∀ a x, ((![v106] : Fin 1 → IVec S16 32) a x).toNat < S16384.size a := fun v106 k0_hw229 => k0_hw229
def k0_off247 (k0_t15 : Fin k0_t15_loop.trips) : Fin 2 → Nat :=
  let c5_i32_108 : BitVec 32 := 5#32
  let v109 : Index := Scalar.indexCast c5_i32_108
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v110 : Index := Scalar.indexCast v84
  ![5, v110.toNat]

def k0_chk230 (v111 : IVec S16 32) : Prop :=
  (∀ a x, ((![v111] : Fin 1 → IVec S16 32) a x).toNat < S16384.size a)
theorem k0_idx230_inb : ∀ (v111 : IVec S16 32) (k0_hw230 : k0_chk230 v111), ∀ a x, ((![v111] : Fin 1 → IVec S16 32) a x).toNat < S16384.size a := fun v111 k0_hw230 => k0_hw230
def k0_off248 (k0_t15 : Fin k0_t15_loop.trips) : Fin 2 → Nat :=
  let c6_i32_109 : BitVec 32 := 6#32
  let v114 : Index := Scalar.indexCast c6_i32_109
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v115 : Index := Scalar.indexCast v84
  ![6, v115.toNat]

def k0_chk231 (v116 : IVec S16 32) : Prop :=
  (∀ a x, ((![v116] : Fin 1 → IVec S16 32) a x).toNat < S16384.size a)
theorem k0_idx231_inb : ∀ (v116 : IVec S16 32) (k0_hw231 : k0_chk231 v116), ∀ a x, ((![v116] : Fin 1 → IVec S16 32) a x).toNat < S16384.size a := fun v116 k0_hw231 => k0_hw231
def k0_off249 (k0_t15 : Fin k0_t15_loop.trips) : Fin 2 → Nat :=
  let c7_i32_110 : BitVec 32 := 7#32
  let v119 : Index := Scalar.indexCast c7_i32_110
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v120 : Index := Scalar.indexCast v84
  ![7, v120.toNat]

def k0_chk232 (v121 : IVec S16 32) : Prop :=
  (∀ a x, ((![v121] : Fin 1 → IVec S16 32) a x).toNat < S16384.size a)
theorem k0_idx232_inb : ∀ (v121 : IVec S16 32) (k0_hw232 : k0_chk232 v121), ∀ a x, ((![v121] : Fin 1 → IVec S16 32) a x).toNat < S16384.size a := fun v121 k0_hw232 => k0_hw232
def k0_off250 (k0_t15 : Fin k0_t15_loop.trips) : Fin 2 → Nat :=
  let c8_i32_111 : BitVec 32 := 8#32
  let v124 : Index := Scalar.indexCast c8_i32_111
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v125 : Index := Scalar.indexCast v84
  ![8, v125.toNat]

def k0_chk233 (v126 : IVec S16 32) : Prop :=
  (∀ a x, ((![v126] : Fin 1 → IVec S16 32) a x).toNat < S16384.size a)
theorem k0_idx233_inb : ∀ (v126 : IVec S16 32) (k0_hw233 : k0_chk233 v126), ∀ a x, ((![v126] : Fin 1 → IVec S16 32) a x).toNat < S16384.size a := fun v126 k0_hw233 => k0_hw233
def k0_off251 (k0_t15 : Fin k0_t15_loop.trips) : Fin 2 → Nat :=
  let c9_i32_112 : BitVec 32 := 9#32
  let v129 : Index := Scalar.indexCast c9_i32_112
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v130 : Index := Scalar.indexCast v84
  ![9, v130.toNat]

def k0_chk234 (v131 : IVec S16 32) : Prop :=
  (∀ a x, ((![v131] : Fin 1 → IVec S16 32) a x).toNat < S16384.size a)
theorem k0_idx234_inb : ∀ (v131 : IVec S16 32) (k0_hw234 : k0_chk234 v131), ∀ a x, ((![v131] : Fin 1 → IVec S16 32) a x).toNat < S16384.size a := fun v131 k0_hw234 => k0_hw234
def k0_off252 (k0_t15 : Fin k0_t15_loop.trips) : Fin 2 → Nat :=
  let c10_i32_113 : BitVec 32 := 10#32
  let v134 : Index := Scalar.indexCast c10_i32_113
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v135 : Index := Scalar.indexCast v84
  ![10, v135.toNat]

def k0_chk235 (v136 : IVec S16 32) : Prop :=
  (∀ a x, ((![v136] : Fin 1 → IVec S16 32) a x).toNat < S16384.size a)
theorem k0_idx235_inb : ∀ (v136 : IVec S16 32) (k0_hw235 : k0_chk235 v136), ∀ a x, ((![v136] : Fin 1 → IVec S16 32) a x).toNat < S16384.size a := fun v136 k0_hw235 => k0_hw235
def k0_off253 (k0_t15 : Fin k0_t15_loop.trips) : Fin 2 → Nat :=
  let c11_i32_114 : BitVec 32 := 11#32
  let v139 : Index := Scalar.indexCast c11_i32_114
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v140 : Index := Scalar.indexCast v84
  ![11, v140.toNat]

def k0_chk236 (v141 : IVec S16 32) : Prop :=
  (∀ a x, ((![v141] : Fin 1 → IVec S16 32) a x).toNat < S16384.size a)
theorem k0_idx236_inb : ∀ (v141 : IVec S16 32) (k0_hw236 : k0_chk236 v141), ∀ a x, ((![v141] : Fin 1 → IVec S16 32) a x).toNat < S16384.size a := fun v141 k0_hw236 => k0_hw236
def k0_off254 (k0_t15 : Fin k0_t15_loop.trips) : Fin 2 → Nat :=
  let c12_i32_115 : BitVec 32 := 12#32
  let v144 : Index := Scalar.indexCast c12_i32_115
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v145 : Index := Scalar.indexCast v84
  ![12, v145.toNat]

def k0_chk237 (v146 : IVec S16 32) : Prop :=
  (∀ a x, ((![v146] : Fin 1 → IVec S16 32) a x).toNat < S16384.size a)
theorem k0_idx237_inb : ∀ (v146 : IVec S16 32) (k0_hw237 : k0_chk237 v146), ∀ a x, ((![v146] : Fin 1 → IVec S16 32) a x).toNat < S16384.size a := fun v146 k0_hw237 => k0_hw237
def k0_off255 (k0_t15 : Fin k0_t15_loop.trips) : Fin 2 → Nat :=
  let c13_i32_116 : BitVec 32 := 13#32
  let v149 : Index := Scalar.indexCast c13_i32_116
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v150 : Index := Scalar.indexCast v84
  ![13, v150.toNat]

def k0_chk238 (v151 : IVec S16 32) : Prop :=
  (∀ a x, ((![v151] : Fin 1 → IVec S16 32) a x).toNat < S16384.size a)
theorem k0_idx238_inb : ∀ (v151 : IVec S16 32) (k0_hw238 : k0_chk238 v151), ∀ a x, ((![v151] : Fin 1 → IVec S16 32) a x).toNat < S16384.size a := fun v151 k0_hw238 => k0_hw238
def k0_off256 (k0_t15 : Fin k0_t15_loop.trips) : Fin 2 → Nat :=
  let c14_i32_117 : BitVec 32 := 14#32
  let v154 : Index := Scalar.indexCast c14_i32_117
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v155 : Index := Scalar.indexCast v84
  ![14, v155.toNat]

def k0_chk239 (v156 : IVec S16 32) : Prop :=
  (∀ a x, ((![v156] : Fin 1 → IVec S16 32) a x).toNat < S16384.size a)
theorem k0_idx239_inb : ∀ (v156 : IVec S16 32) (k0_hw239 : k0_chk239 v156), ∀ a x, ((![v156] : Fin 1 → IVec S16 32) a x).toNat < S16384.size a := fun v156 k0_hw239 => k0_hw239
def k0_off257 (k0_t15 : Fin k0_t15_loop.trips) : Fin 2 → Nat :=
  let c15_i32_118 : BitVec 32 := 15#32
  let v159 : Index := Scalar.indexCast c15_i32_118
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v160 : Index := Scalar.indexCast v84
  ![15, v160.toNat]

def k0_chk240 (v161 : IVec S16 32) : Prop :=
  (∀ a x, ((![v161] : Fin 1 → IVec S16 32) a x).toNat < S16384.size a)
theorem k0_idx240_inb : ∀ (v161 : IVec S16 32) (k0_hw240 : k0_chk240 v161), ∀ a x, ((![v161] : Fin 1 → IVec S16 32) a x).toNat < S16384.size a := fun v161 k0_hw240 => k0_hw240
def k0_off258 (k0_t15 : Fin k0_t15_loop.trips) : Fin 1 → Nat :=
  let c0_i32_92 : BitVec 32 := 0#32
  let c1_i32_94 : BitVec 32 := 1#32
  let arg8 : BitVec 32 := Scf.iv c0_i32_92 c1_i32_94 k0_t15
  let c16_i32_102 : BitVec 32 := 16#32
  let v83 : BitVec 32 := Scalar.muli arg8 c16_i32_102
  let v84 : BitVec 32 := v83
  let v164 : Index := Scalar.indexCast v84
  ![v164.toNat]
@[reducible] def k0_t16_loop : Scf.Loop 32 :=
  let c0_i32_98 : BitVec 32 := 0#32
  let c256_i32_99 : BitVec 32 := 256#32
  let v81 : BitVec 32 := Scalar.addi c0_i32_98 c256_i32_99
  let c1_i32_100 : BitVec 32 := 1#32
  ⟨c0_i32_98, v81, c1_i32_100⟩
def k0_mult16 (k0_t16 : Fin k0_t16_loop.trips) : BitVec 32 :=
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  v83
def k0_off259 (k0_t16 : Fin k0_t16_loop.trips) : Fin 2 → Nat :=
  let c0_i32_103 : BitVec 32 := 0#32
  let v85 : Index := Scalar.indexCast c0_i32_103
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v86 : Index := Scalar.indexCast v84
  ![0, v86.toNat]

def k0_chk241 (v87 : IVec S16 32) : Prop :=
  (∀ a x, ((![v87] : Fin 1 → IVec S16 32) a x).toNat < S16384.size a)
theorem k0_idx241_inb : ∀ (v87 : IVec S16 32) (k0_hw241 : k0_chk241 v87), ∀ a x, ((![v87] : Fin 1 → IVec S16 32) a x).toNat < S16384.size a := fun v87 k0_hw241 => k0_hw241
def k0_off260 (k0_t16 : Fin k0_t16_loop.trips) : Fin 2 → Nat :=
  let c1_i32_104 : BitVec 32 := 1#32
  let v89 : Index := Scalar.indexCast c1_i32_104
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v90 : Index := Scalar.indexCast v84
  ![1, v90.toNat]

def k0_chk242 (v91 : IVec S16 32) : Prop :=
  (∀ a x, ((![v91] : Fin 1 → IVec S16 32) a x).toNat < S16384.size a)
theorem k0_idx242_inb : ∀ (v91 : IVec S16 32) (k0_hw242 : k0_chk242 v91), ∀ a x, ((![v91] : Fin 1 → IVec S16 32) a x).toNat < S16384.size a := fun v91 k0_hw242 => k0_hw242
def k0_off261 (k0_t16 : Fin k0_t16_loop.trips) : Fin 2 → Nat :=
  let c2_i32_105 : BitVec 32 := 2#32
  let v94 : Index := Scalar.indexCast c2_i32_105
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v95 : Index := Scalar.indexCast v84
  ![2, v95.toNat]

def k0_chk243 (v96 : IVec S16 32) : Prop :=
  (∀ a x, ((![v96] : Fin 1 → IVec S16 32) a x).toNat < S16384.size a)
theorem k0_idx243_inb : ∀ (v96 : IVec S16 32) (k0_hw243 : k0_chk243 v96), ∀ a x, ((![v96] : Fin 1 → IVec S16 32) a x).toNat < S16384.size a := fun v96 k0_hw243 => k0_hw243
def k0_off262 (k0_t16 : Fin k0_t16_loop.trips) : Fin 2 → Nat :=
  let c3_i32_106 : BitVec 32 := 3#32
  let v99 : Index := Scalar.indexCast c3_i32_106
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v100 : Index := Scalar.indexCast v84
  ![3, v100.toNat]

def k0_chk244 (v101 : IVec S16 32) : Prop :=
  (∀ a x, ((![v101] : Fin 1 → IVec S16 32) a x).toNat < S16384.size a)
theorem k0_idx244_inb : ∀ (v101 : IVec S16 32) (k0_hw244 : k0_chk244 v101), ∀ a x, ((![v101] : Fin 1 → IVec S16 32) a x).toNat < S16384.size a := fun v101 k0_hw244 => k0_hw244
def k0_off263 (k0_t16 : Fin k0_t16_loop.trips) : Fin 2 → Nat :=
  let c4_i32_107 : BitVec 32 := 4#32
  let v104 : Index := Scalar.indexCast c4_i32_107
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v105 : Index := Scalar.indexCast v84
  ![4, v105.toNat]

def k0_chk245 (v106 : IVec S16 32) : Prop :=
  (∀ a x, ((![v106] : Fin 1 → IVec S16 32) a x).toNat < S16384.size a)
theorem k0_idx245_inb : ∀ (v106 : IVec S16 32) (k0_hw245 : k0_chk245 v106), ∀ a x, ((![v106] : Fin 1 → IVec S16 32) a x).toNat < S16384.size a := fun v106 k0_hw245 => k0_hw245
def k0_off264 (k0_t16 : Fin k0_t16_loop.trips) : Fin 2 → Nat :=
  let c5_i32_108 : BitVec 32 := 5#32
  let v109 : Index := Scalar.indexCast c5_i32_108
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v110 : Index := Scalar.indexCast v84
  ![5, v110.toNat]

def k0_chk246 (v111 : IVec S16 32) : Prop :=
  (∀ a x, ((![v111] : Fin 1 → IVec S16 32) a x).toNat < S16384.size a)
theorem k0_idx246_inb : ∀ (v111 : IVec S16 32) (k0_hw246 : k0_chk246 v111), ∀ a x, ((![v111] : Fin 1 → IVec S16 32) a x).toNat < S16384.size a := fun v111 k0_hw246 => k0_hw246
def k0_off265 (k0_t16 : Fin k0_t16_loop.trips) : Fin 2 → Nat :=
  let c6_i32_109 : BitVec 32 := 6#32
  let v114 : Index := Scalar.indexCast c6_i32_109
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v115 : Index := Scalar.indexCast v84
  ![6, v115.toNat]

def k0_chk247 (v116 : IVec S16 32) : Prop :=
  (∀ a x, ((![v116] : Fin 1 → IVec S16 32) a x).toNat < S16384.size a)
theorem k0_idx247_inb : ∀ (v116 : IVec S16 32) (k0_hw247 : k0_chk247 v116), ∀ a x, ((![v116] : Fin 1 → IVec S16 32) a x).toNat < S16384.size a := fun v116 k0_hw247 => k0_hw247
def k0_off266 (k0_t16 : Fin k0_t16_loop.trips) : Fin 2 → Nat :=
  let c7_i32_110 : BitVec 32 := 7#32
  let v119 : Index := Scalar.indexCast c7_i32_110
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v120 : Index := Scalar.indexCast v84
  ![7, v120.toNat]

def k0_chk248 (v121 : IVec S16 32) : Prop :=
  (∀ a x, ((![v121] : Fin 1 → IVec S16 32) a x).toNat < S16384.size a)
theorem k0_idx248_inb : ∀ (v121 : IVec S16 32) (k0_hw248 : k0_chk248 v121), ∀ a x, ((![v121] : Fin 1 → IVec S16 32) a x).toNat < S16384.size a := fun v121 k0_hw248 => k0_hw248
def k0_off267 (k0_t16 : Fin k0_t16_loop.trips) : Fin 2 → Nat :=
  let c8_i32_111 : BitVec 32 := 8#32
  let v124 : Index := Scalar.indexCast c8_i32_111
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v125 : Index := Scalar.indexCast v84
  ![8, v125.toNat]

def k0_chk249 (v126 : IVec S16 32) : Prop :=
  (∀ a x, ((![v126] : Fin 1 → IVec S16 32) a x).toNat < S16384.size a)
theorem k0_idx249_inb : ∀ (v126 : IVec S16 32) (k0_hw249 : k0_chk249 v126), ∀ a x, ((![v126] : Fin 1 → IVec S16 32) a x).toNat < S16384.size a := fun v126 k0_hw249 => k0_hw249
def k0_off268 (k0_t16 : Fin k0_t16_loop.trips) : Fin 2 → Nat :=
  let c9_i32_112 : BitVec 32 := 9#32
  let v129 : Index := Scalar.indexCast c9_i32_112
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v130 : Index := Scalar.indexCast v84
  ![9, v130.toNat]

def k0_chk250 (v131 : IVec S16 32) : Prop :=
  (∀ a x, ((![v131] : Fin 1 → IVec S16 32) a x).toNat < S16384.size a)
theorem k0_idx250_inb : ∀ (v131 : IVec S16 32) (k0_hw250 : k0_chk250 v131), ∀ a x, ((![v131] : Fin 1 → IVec S16 32) a x).toNat < S16384.size a := fun v131 k0_hw250 => k0_hw250
def k0_off269 (k0_t16 : Fin k0_t16_loop.trips) : Fin 2 → Nat :=
  let c10_i32_113 : BitVec 32 := 10#32
  let v134 : Index := Scalar.indexCast c10_i32_113
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v135 : Index := Scalar.indexCast v84
  ![10, v135.toNat]

def k0_chk251 (v136 : IVec S16 32) : Prop :=
  (∀ a x, ((![v136] : Fin 1 → IVec S16 32) a x).toNat < S16384.size a)
theorem k0_idx251_inb : ∀ (v136 : IVec S16 32) (k0_hw251 : k0_chk251 v136), ∀ a x, ((![v136] : Fin 1 → IVec S16 32) a x).toNat < S16384.size a := fun v136 k0_hw251 => k0_hw251
def k0_off270 (k0_t16 : Fin k0_t16_loop.trips) : Fin 2 → Nat :=
  let c11_i32_114 : BitVec 32 := 11#32
  let v139 : Index := Scalar.indexCast c11_i32_114
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v140 : Index := Scalar.indexCast v84
  ![11, v140.toNat]

def k0_chk252 (v141 : IVec S16 32) : Prop :=
  (∀ a x, ((![v141] : Fin 1 → IVec S16 32) a x).toNat < S16384.size a)
theorem k0_idx252_inb : ∀ (v141 : IVec S16 32) (k0_hw252 : k0_chk252 v141), ∀ a x, ((![v141] : Fin 1 → IVec S16 32) a x).toNat < S16384.size a := fun v141 k0_hw252 => k0_hw252
def k0_off271 (k0_t16 : Fin k0_t16_loop.trips) : Fin 2 → Nat :=
  let c12_i32_115 : BitVec 32 := 12#32
  let v144 : Index := Scalar.indexCast c12_i32_115
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v145 : Index := Scalar.indexCast v84
  ![12, v145.toNat]

def k0_chk253 (v146 : IVec S16 32) : Prop :=
  (∀ a x, ((![v146] : Fin 1 → IVec S16 32) a x).toNat < S16384.size a)
theorem k0_idx253_inb : ∀ (v146 : IVec S16 32) (k0_hw253 : k0_chk253 v146), ∀ a x, ((![v146] : Fin 1 → IVec S16 32) a x).toNat < S16384.size a := fun v146 k0_hw253 => k0_hw253
def k0_off272 (k0_t16 : Fin k0_t16_loop.trips) : Fin 2 → Nat :=
  let c13_i32_116 : BitVec 32 := 13#32
  let v149 : Index := Scalar.indexCast c13_i32_116
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v150 : Index := Scalar.indexCast v84
  ![13, v150.toNat]

def k0_chk254 (v151 : IVec S16 32) : Prop :=
  (∀ a x, ((![v151] : Fin 1 → IVec S16 32) a x).toNat < S16384.size a)
theorem k0_idx254_inb : ∀ (v151 : IVec S16 32) (k0_hw254 : k0_chk254 v151), ∀ a x, ((![v151] : Fin 1 → IVec S16 32) a x).toNat < S16384.size a := fun v151 k0_hw254 => k0_hw254
def k0_off273 (k0_t16 : Fin k0_t16_loop.trips) : Fin 2 → Nat :=
  let c14_i32_117 : BitVec 32 := 14#32
  let v154 : Index := Scalar.indexCast c14_i32_117
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v155 : Index := Scalar.indexCast v84
  ![14, v155.toNat]

def k0_chk255 (v156 : IVec S16 32) : Prop :=
  (∀ a x, ((![v156] : Fin 1 → IVec S16 32) a x).toNat < S16384.size a)
theorem k0_idx255_inb : ∀ (v156 : IVec S16 32) (k0_hw255 : k0_chk255 v156), ∀ a x, ((![v156] : Fin 1 → IVec S16 32) a x).toNat < S16384.size a := fun v156 k0_hw255 => k0_hw255
def k0_off274 (k0_t16 : Fin k0_t16_loop.trips) : Fin 2 → Nat :=
  let c15_i32_118 : BitVec 32 := 15#32
  let v159 : Index := Scalar.indexCast c15_i32_118
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v160 : Index := Scalar.indexCast v84
  ![15, v160.toNat]

def k0_chk256 (v161 : IVec S16 32) : Prop :=
  (∀ a x, ((![v161] : Fin 1 → IVec S16 32) a x).toNat < S16384.size a)
theorem k0_idx256_inb : ∀ (v161 : IVec S16 32) (k0_hw256 : k0_chk256 v161), ∀ a x, ((![v161] : Fin 1 → IVec S16 32) a x).toNat < S16384.size a := fun v161 k0_hw256 => k0_hw256
def k0_off275 (k0_t16 : Fin k0_t16_loop.trips) : Fin 1 → Nat :=
  let c0_i32_98 : BitVec 32 := 0#32
  let c1_i32_100 : BitVec 32 := 1#32
  let arg8 : BitVec 32 := Scf.iv c0_i32_98 c1_i32_100 k0_t16
  let c16_i32_102 : BitVec 32 := 16#32
  let v83 : BitVec 32 := Scalar.muli arg8 c16_i32_102
  let v84 : BitVec 32 := v83
  let v164 : Index := Scalar.indexCast v84
  ![v164.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x64x16384 : Shape := ⟨3, ![8, 64, 16384]⟩
abbrev S8x16384x3 : Shape := ⟨3, ![8, 16384, 3]⟩
abbrev S8x4096x3 : Shape := ⟨3, ![8, 4096, 3]⟩
abbrev S8x4096x16 : Shape := ⟨3, ![8, 4096, 16]⟩
abbrev S8x1x65536 : Shape := ⟨3, ![8, 1, 65536]⟩
abbrev S8x64x65536 : Shape := ⟨3, ![8, 64, 65536]⟩
abbrev S_ : Shape := ⟨0, ![]⟩
abbrev S8x64x65536x1 : Shape := ⟨4, ![8, 64, 65536, 1]⟩
abbrev S1 : Shape := ⟨1, ![1]⟩
abbrev S1x1x1x1 : Shape := ⟨4, ![1, 1, 1, 1]⟩
abbrev S8x64x4096x16 : Shape := ⟨4, ![8, 64, 4096, 16]⟩
abbrev S8x64x4096 : Shape := ⟨3, ![8, 64, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x64x16384, .f32⟩
  | .hbm, ⟨1, _⟩ => ⟨S8x16384x3, .f32⟩
  | .hbm, ⟨2, _⟩ => ⟨S8x4096x3, .f32⟩
  | .hbm, ⟨3, _⟩ => ⟨S8x4096x16, .i32⟩
  | .hbm, ⟨4, _⟩ => ⟨S8x1x65536, .i32⟩
  | .hbm, ⟨5, _⟩ => ⟨S8x64x65536, .i32⟩
  | .hbm, ⟨6, _⟩ => ⟨S_, .i32⟩
  | .hbm, ⟨7, _⟩ => ⟨S8x64x65536, .i32⟩
  | .hbm, ⟨8, _⟩ => ⟨S8x64x65536, .i1⟩
  | .hbm, ⟨9, _⟩ => ⟨S_, .i32⟩
  | .hbm, ⟨10, _⟩ => ⟨S8x64x65536, .i32⟩
  | .hbm, ⟨11, _⟩ => ⟨S8x64x65536, .i32⟩
  | .hbm, ⟨12, _⟩ => ⟨S8x64x65536, .i32⟩
  | .hbm, ⟨13, _⟩ => ⟨S8x64x65536x1, .i32⟩
  | .hbm, ⟨14, _⟩ => ⟨S1, .i32⟩
  | .hbm, ⟨15, _⟩ => ⟨S_, .i32⟩
  | .hbm, ⟨16, _⟩ => ⟨S8x64x65536x1, .i32⟩
  | .hbm, ⟨17, _⟩ => ⟨S8x64x65536x1, .i1⟩
  | .hbm, ⟨18, _⟩ => ⟨S1x1x1x1, .i32⟩
  | .hbm, ⟨19, _⟩ => ⟨S8x64x65536x1, .i32⟩
  | .hbm, ⟨20, _⟩ => ⟨S8x64x65536x1, .i1⟩
  | .hbm, ⟨21, _⟩ => ⟨S8x64x65536x1, .i1⟩
  | .hbm, ⟨22, _⟩ => ⟨S_, .i1⟩
  | .hbm, ⟨23, _⟩ => ⟨S8x64x65536, .i1⟩
  | .hbm, ⟨24, _⟩ => ⟨S8x64x65536, .f32⟩
  | .hbm, ⟨25, _⟩ => ⟨S_, .f32⟩
  | .hbm, ⟨26, _⟩ => ⟨S8x64x65536, .f32⟩
  | .hbm, ⟨27, _⟩ => ⟨S8x64x65536, .f32⟩
  | .hbm, ⟨28, _⟩ => ⟨S8x64x4096x16, .f32⟩
  | .hbm, ⟨29, _⟩ => ⟨S_, .f32⟩
  | .hbm, ⟨30, _⟩ => ⟨S8x64x4096, .f32⟩
  | _, _ => ⟨S8x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.InRange.lean ====
/-
  The precondition's meaning: when its reduction by `and` is one, every word of the index argument is below 16384.
-/
module

public import proofs.«01_k».proof.Proof.Gen.Pre_in_range
public import Idealize.ShloMosaic.Lib.WordCmp
public import Idealize.ShloMosaic.PureOps.Reduce

@[expose] public section

namespace Cert.Proof

open Idealize.ShloMosaic

/-- A bitwise `and` folded over a list is one only when the start and every element are. -/
theorem foldl_andi_eq_one {α : Type} (x : α → BitVec 1) :
    ∀ (l : List α) (b : BitVec 1), l.foldl (fun r i => IntOp.andi r (x i)) b = 1#1 → b = 1#1 ∧ ∀ i ∈ l, x i = 1#1
  | [], _, h => ⟨h, fun _ hi => nomatch hi⟩
  | a :: l, b, h => by
    obtain ⟨h1, h2⟩ := foldl_andi_eq_one x l _ h
    have hb : ∀ p q : BitVec 1, IntOp.andi p q = 1#1 → p = 1#1 ∧ q = 1#1 := by decide
    obtain ⟨h3, h4⟩ := hb _ _ h1
    refine ⟨h3, fun i hi => ?_⟩
    rcases List.mem_cons.mp hi with rfl | hi
    · exact h4
    · exact h2 i hi

/-- Under the precondition every index is below 16384. -/
theorem in_range_lt {F : FTy → Type} [FloatOps F] (x0 : FVec F Cert.Pre_in_range.S8x64x16384 .f32) (x1 : FVec F Cert.Pre_in_range.S8x16384x3 .f32)
    (x2 : FVec F Cert.Pre_in_range.S8x4096x3 .f32) (x3 : IVec Cert.Pre_in_range.S8x4096x16 32)
    (h : Cert.Pre_in_range.fn x0 x1 x2 x3 = fun _ => 1#1) (z : Cert.Pre_in_range.S8x4096x16.Idx) : (x3 z).toNat < 16384 := by
  have h1 := congrFun h (fun a => a.elim0)
  unfold Cert.Pre_in_range.fn at h1
  dsimp only at h1
  rw [Host.reduce_eq_foldl] at h1
  have h2 := (foldl_andi_eq_one _ _ _ h1).2
  have h3 := h2 z (List.mem_filter.mpr ⟨List.mem_map.mpr ⟨_, List.mem_finRange _, Equiv.symm_apply_apply _ z⟩, decide_eq_true (funext fun a => a.elim0)⟩)
  have h4 : IntOp.andi (IntOp.cmpi .sge (x3 z) 0#32) (IntOp.cmpi .slt (x3 z) (BitVec.ofNat 32 16384)) = 1#1 := h3
  rw [WordCmp.andi_sge_zero_slt_ofNat (by decide)] at h4
  exact (WordCmp.ofBool_decide_eq_one_iff _).mp h4

end Cert.Proof
-- ==== Proof.Maxima.lean ====
/-
  The values: what the kernel writes, as plain functions of its two operands.

  A word names a lane of a feature row (`pick`, total: the word is taken modulo the row's length, which is no change for
  a word in range). An output lane is the maximum of the sixteen picked lanes, folded from the first index row to the
  last (`rowMax`). The output array is that, row by row (`maxima`).
-/
module

public import Idealize.ShloMosaic.Lib.Pointwise
public import Idealize.ShloMosaic.PureOps

@[expose] public section

noncomputable section

namespace Cert.Proof.Maxima

open Idealize.ShloMosaic

variable {F : FTy → Type} [FloatOps F]

/-- The lane of a feature row that a word names. -/
def pick (X : (⟨1, ![16384]⟩ : Shape).Idx → F .f32) (w : BitVec 32) : F .f32 :=
  X (ix1 (⟨w.toNat % 16384, Nat.mod_lt _ (by decide)⟩ : Fin 16384))

omit [FloatOps F] in
/-- A word in range names the lane of its own number. -/
theorem pick_of_lt (X : (⟨1, ![16384]⟩ : Shape).Idx → F .f32) (w : BitVec 32) (h : w.toNat < 16384) :
    pick X w = X (ix1 (⟨w.toNat, h⟩ : Fin 16384)) := by
  unfold pick; congr 2; exact Fin.ext (Nat.mod_eq_of_lt h)

/-- The maximum of the lanes that index rows `0, …, n` name at output lane `y`, folded in that order. -/
def rowMax (X : (⟨1, ![16384]⟩ : Shape).Idx → F .f32) (I : (⟨2, ![16, 4096]⟩ : Shape).Idx → BitVec 32) :
    Nat → Fin 4096 → F .f32
  | 0, y => pick X (I (ix2 (0 : Fin 16) y))
  | n + 1, y => FloatOps.maximumf (rowMax X I n y) (pick X (I (ix2 (⟨(n + 1) % 16, Nat.mod_lt _ (by decide)⟩ : Fin 16) y)))

/-- Feature row `r`. -/
def featOf (A : (⟨2, ![512, 16384]⟩ : Shape).Idx → F .f32) (r : Fin 512) : (⟨1, ![16384]⟩ : Shape).Idx → F .f32 :=
  fun x => A (ix2 r (x 0 : Fin 16384))

/-- The index block of batch `b`. -/
def idxOf (J : (⟨3, ![8, 16, 4096]⟩ : Shape).Idx → BitVec 32) (b : Fin 8) : (⟨2, ![16, 4096]⟩ : Shape).Idx → BitVec 32 :=
  fun w => J (ix3 b (w 0 : Fin 16) (w 1 : Fin 4096))

/-- The batch that feature row `r` belongs to: 64 rows to a batch. -/
def batchOf (r : Fin 512) : Fin 8 := ⟨r.val / 64, by have := r.isLt; omega⟩

/-- The whole output: at row `r` and lane `y`, the maximum of feature row `r` at the sixteen indices that its batch has
    for `y`. -/
def maxima (A : (⟨2, ![512, 16384]⟩ : Shape).Idx → F .f32) (J : (⟨3, ![8, 16, 4096]⟩ : Shape).Idx → BitVec 32) :
    (⟨2, ![512, 4096]⟩ : Shape).Idx → F .f32 :=
  fun z => rowMax (featOf A (z 0)) (idxOf J (batchOf (z 0))) 15 (z 1 : Fin 4096)

end Cert.Proof.Maxima

end
-- ==== Proof.KernelIdealTrip.lean ====
/-
  One trip of the kernel's inner loop.

  The kernel is unrolled over the sixteen feature rows of a vector subcore, and each row has an inner loop of its own
  over the 256 groups of sixteen output lanes. The sixteen loop regions are the same program under different names, so
  this file states that program once (`trip`), proves that each of the sixteen regions is it, and proves one rule for
  it: from the staged index block and the staged feature row, a trip stores sixteen maxima.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pointwise
public import proofs.«01_k».proof.Proof.Gen.KernelIdeal
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)

variable {F : FTy → Type} [FloatOps F]

/-- Programs of the vector subcore at coordinates `i`. -/
abbrev Task (F : FTy → Type) (i : grid0.Coords) (α : Type) : Type 1 :=
  Prog (TpuEff nD τ sig (Elt F) Λ₀ (.scVector ((i 0).castLE hcore0) ((i 1).castLE hsub0))) α

/-- Where trip `t` reads row `kk` of the staged index block: row `kk`, first lane `16 t`. -/
def off (kk : Nat) (t : Fin k0_t1_loop.trips) : Fin 2 → Nat :=
  ![kk, (Scalar.indexCast (Scalar.muli (Scf.iv 0#32 1#32 t) 16#32) : Index).toNat]

theorem off_eq (kk : Nat) (t : Fin k0_t1_loop.trips) : off kk t = ![kk, 16 * t.val] := by
  have h := congrFun (k0_off3_eq t) 1
  have h' : (off kk t) 1 = 16 * t.val := h
  funext a
  match a with
  | 0 => rfl
  | 1 => exact h'

/-- There are 256 trips. -/
theorem trip_lt (t : Fin k0_t1_loop.trips) : t.val < 256 :=
  Nat.lt_of_lt_of_eq t.isLt (by decide)

theorem off_inb (kk : Nat) (hk : kk < 16) (t : Fin k0_t1_loop.trips) :
    ∀ a, off kk t a + S1x16.size a ≤ S16x4096.size a := by
  have ht := trip_lt t
  rw [off_eq]
  intro a
  match a with
  | 0 => show kk + 1 ≤ 16; omega
  | 1 => show 16 * t.val + 16 ≤ 4096; omega

section Programs

variable (i : grid0.Coords) (a5 : Memref sig .scVector .vmem S16x4096 .i32) (a6 : Memref sig .scVector .vmem S16384 .f32)
  (a7 : Memref sig .scVector .vmem S4096 .f32)

/-- Sixteen indices of row `kk` are loaded, checked to be in range, and the feature row is gathered at them. -/
def gather1 (kk : Nat) (hk : kk < 16) (t : Fin k0_t1_loop.trips) : Task F i (Vec F S16 .f32) := do
  let w : Vec F S1x16 .i32 ← Prog.lift (.load a5 (Rect.unit (s := S16x4096) (off kk t) S1x16.size (off_inb kk hk t)).toLoadRect (View.loadsAt_vmem h_S1x16))
  have v : Vec F S16 .i32 := shapeCast S16 w shapeCasts_S1x16_S16
  have hw : k0_chk1 v := (← Prog.lift (TpuEff.assume (k0_chk1 v) (k0_chk1.dec v))).down
  SparseCore.vectorLoadIdx a6 ![v] (k0_idx1_inb v hw) (View.loads_vmem h_S16384)

/-- The running maximum of the gathers at the index rows `0, …, n`. -/
def gatherMax (t : Fin k0_t1_loop.trips) : (n : Nat) → n < 16 → Task F i (Vec F S16 .f32)
  | 0, h => gather1 i a5 a6 0 h t
  | n + 1, h => do
    let a ← gatherMax t n (Nat.lt_of_succ_lt h)
    let v ← gather1 i a5 a6 (n + 1) h t
    pure (maximumf (φ := .f32) a v)

/-- One trip: the maximum of the sixteen gathers is stored at the trip's sixteen lanes of the output row. -/
def trip (t : Fin k0_t1_loop.trips) : Task F i (BitVec 32) := do
  let a ← gatherMax i a5 a6 t 15 (by decide)
  let _ : Vec F S16 .f32 ← Prog.lift (.load a7 (Rect.unit (s := S4096) (k0_off19 t) S16.size (k0_off19_inb t)).toLoadRect (View.loadsAt_vmem h_S16))
  Prog.lift (.store a7 (Rect.unit (s := S4096) (k0_off19 t) S16.size (k0_off19_inb t)) a Finset.univ (View.stores_vmem_bits_univ h_S16 rfl) (.inl rfl))
  pure 0#32

end Programs

/-! ## The sixteen loop regions are this one program -/

/-- The region of the first row's loop is `trip`. -/
theorem region_first : k0_t1_body (F := F) = fun i _ _ _ _ _ _ a5 _ a6 _ a7 _
    _ _ _ _ _ _ _ _ _ _ _ _ _ _ _ _ _ _ _ _ _ _ _ _ _ _ _ _ _ _ _ _ _ _ t _ => trip i a5 a6 a7 t := by
  funext i _ _ _ _ _ _ a5 _ a6 _ a7 _
    _ _ _ _ _ _ _ _ _ _ _ _ _ _ _ _ _ _ _ _ _ _ _ _ _ _ _ _ _ _ _ _ _ _ t _
  simp only [k0_t1_body, k0_part1_eq_skeleton, k0_part2_eq_skeleton, k0_part1_skel, k0_part2_skel, trip, gatherMax, gather1,
    Prog.lift, Prog.bind_op, Prog.bind_ret, Prog.pure_eq_ret, SparseCore.vectorLoadIdx]
  rfl

/-- The regions of the other rows' loops are the first row's. -/
theorem regions_same :
    k0_t2_body (F := F) = k0_t1_body
    ∧ k0_t3_body (F := F) = k0_t1_body
    ∧ k0_t4_body (F := F) = k0_t1_body
    ∧ k0_t5_body (F := F) = k0_t1_body
    ∧ k0_t6_body (F := F) = k0_t1_body
    ∧ k0_t12_body (F := F) = k0_t1_body
    ∧ k0_t13_body (F := F) = k0_t1_body
    ∧ k0_t14_body (F := F) = k0_t1_body
    ∧ k0_t15_body (F := F) = k0_t1_body
    ∧ k0_t16_body (F := F) = k0_t1_body :=
  ⟨rfl, rfl, rfl, rfl, rfl, rfl, rfl, rfl, rfl, rfl⟩

end Cert.Proof.KernelIdeal
-- ==== Proof.KernelIdealWp.lean ====
/-
  The rule for a trip, and the rule for a row's loop.

  With the index block and the feature row staged in the subcore's own memory, and every staged index in range, a trip
  stores `rowMax` at its sixteen lanes, and the 256 trips fill the output row with it.
-/
module

public import proofs.«01_k».proof.Proof.KernelIdealTrip
public import proofs.«01_k».proof.Proof.Maxima
public import Idealize.ShloMosaic.Lib.Writes

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)
open Idealize.ShloMosaic.Rounds
open Idealize.ShloMosaic.Tactic

variable {F : FTy → Type}

abbrev 𝒱₀ : Variants := Variants.none

/-- The ghost state: the handshakes' rounds, and the counters of the transfers in flight. -/
abbrev UH : Type := URounds (GSem nD τ sig) ℕ
abbrev UU : Type := UH × Counters

local notation "𝕄" => MT nD τ sig (HIx 1) (Elt F) ℕ UU ℕ

/-- The SparseCore and the vector subcore of grid coordinates `L`, and its thread on device `d`. -/
abbrev cV (L : grid0.Coords) : Fin τ.nSC := (L 0).castLE hcore0
abbrev jV (L : grid0.Coords) : Fin τ.nSub := (L 1).castLE hsub0
abbrev me (d : Dev nD) (L : grid0.Coords) : Thread nD τ := V d (cV L) (jV L)

/-- The subcore's three scratch buffers: the index block, the feature row, the output row. -/
abbrev sI : Memref sig .scVector .vmem S16x4096 .i32 := Memref.whole cc0_scratch0
abbrev sX : Memref sig .scVector .vmem S16384 .f32 := Memref.whole cc0_scratch1
abbrev sO : Memref sig .scVector .vmem S4096 .f32 := Memref.whole cc0_scratch2

variable [FloatOps F]
variable (d : Dev nD) (L : grid0.Coords)

/-- The index block staged at contents `I`, the feature row at `X`, the output row at `f`. -/
abbrev iHeld (I : Buf (Elt F) ((me d L).loc cc0_scratch0)) : sProp 𝕄 := (sI).view.loc (me d L) ↦{fullShare} I
abbrev xHeld (X : Buf (Elt F) ((me d L).loc cc0_scratch1)) : sProp 𝕄 := (sX).view.loc (me d L) ↦{fullShare} X
abbrev oHeld (f : Buf (Elt F) ((me d L).loc cc0_scratch2)) : sProp 𝕄 := (sO).view.loc (me d L) ↦{fullShare} f

/-- Every staged index names a lane of the feature row. -/
def InRange (I : Buf (Elt F) ((me d L).loc cc0_scratch0)) : Prop := ∀ y : S16x4096.Idx, BitVec.toNat (w := 32) (I y) < 16384

/-- The output lane that lane `x` of trip `t` works for. -/
def laneOf (t : Fin k0_t1_loop.trips) (x : S16.Idx) : Fin 4096 :=
  ⟨16 * t.val + (x 0).val, by have := trip_lt t; have : (x 0).val < 16 := (x 0).isLt; omega⟩

/-- What a trip loads of index row `kk`, as sixteen lanes. -/
theorem idx_load (I : Buf (Elt F) ((me d L).loc cc0_scratch0)) (kk : Nat) (hk : kk < 16) (t : Fin k0_t1_loop.trips) (x : S16.Idx) :
    shapeCast S16 ((sI).view.readAt (Elt F) (Rect.unit (s := S16x4096) (off kk t) S1x16.size (off_inb kk hk t)).toLoadRect I) shapeCasts_S1x16_S16 x
      = I (ix2 (⟨kk, hk⟩ : Fin 16) (laneOf t x)) := by
  rw [shapeCast_dropUnit_apply]
  rw [View.readAt_apply, View.read_apply]
  refine (cast_eq _ _).trans (congrArg I ?_)
  funext a
  apply Fin.ext
  have h := congrFun (off_eq kk t) a
  match a with
  | 0 => show off kk t 0 + 1 * 0 = kk; rw [h]; rfl
  | 1 => show off kk t 1 + 1 * (x 0).val = 16 * t.val + (x 0).val; rw [h, Nat.one_mul]; rfl

/-- One gather: sixteen lanes of the feature row, at the indices of row `kk`. -/
theorem wp_gather1 (I : Buf (Elt F) ((me d L).loc cc0_scratch0)) (X : Buf (Elt F) ((me d L).loc cc0_scratch1)) (hI : InRange d L I)
    (kk : Nat) (hk : kk < 16) (t : Fin k0_t1_loop.trips) (Q : Vec F S16 .f32 → sProp 𝕄) :
    iprop(iHeld d L I ∗ xHeld d L X
        ∗ ((iHeld d L I ∗ xHeld d L X) -∗ Q (fun x => pick X (I (ix2 (⟨kk, hk⟩ : Fin 16) (laneOf t x))))))
      ⊢ wp frame (wpE (defs₀ (F := F)) 𝒱₀ (me d L) none) Set.univ (gather1 L sI sX kk hk t) Q := by
  have hload := idx_load d L I kk hk t
  have hchk : k0_chk1 (shapeCast S16 ((sI).view.readAt (Elt F) (Rect.unit (s := S16x4096) (off kk t) S1x16.size (off_inb kk hk t)).toLoadRect I) shapeCasts_S1x16_S16) := by
    intro a x
    match a with
    | 0 =>
      have h := hI (ix2 (⟨kk, hk⟩ : Fin 16) (laneOf t x))
      rw [← hload x] at h
      exact h
  unfold gather1
  simp only [Prog.lift, Prog.bind_op, Prog.bind_ret]
  iintro ⟨Hi, Hx, HQ⟩
  iapply (wp_load 𝒱₀ (me d L) none Set.univ (m := sI) (S := Finset.univ) (Finset.subset_univ _)) $$ Hi; iintro Hi
  rw [wp_assume_of _ _ _ _ hchk]
  rw [← bind_pure (SparseCore.vectorLoadIdx _ _ _ _)]
  iapply (SparseCore.wp_vectorLoadIdx 𝒱₀ (me d L) none Set.univ (base := sX) (S := Finset.univ) (q := fullShare) (Finset.subset_univ _)) $$ Hx; iintro Hx
  rw [wp_pure]; imodintro
  have hv : (loadIdx (((sX).access (.whole S16384)).read (Elt F) X) ![shapeCast S16 ((sI).view.readAt (Elt F) (Rect.unit (s := S16x4096) (off kk t) S1x16.size (off_inb kk hk t)).toLoadRect I) shapeCasts_S1x16_S16]
      (k0_idx1_inb _ hchk) : Vec F S16 .f32) = fun x => pick X (I (ix2 (⟨kk, hk⟩ : Fin 16) (laneOf t x))) := by
    funext x
    rw [pick_of_lt _ _ (hI _)]
    show ((sX).access (.whole S16384)).read (Elt F) X _ = _
    rw [View.read_apply]
    refine (cast_eq _ _).trans (congrArg X ?_)
    funext a
    apply Fin.ext
    match a with
    | 0 =>
      show 0 + 1 * _ = _
      rw [Nat.zero_add, Nat.one_mul]
      have h := congrArg (fun w : BitVec 32 => w.toNat) (hload x)
      exact h
  ihave HQ' := HQ $$ [Hi Hx]
  · isplitl [Hi] <;> iassumption
  rw [← hv]
  iexact HQ'

/-- The running maximum of the gathers at index rows `0, …, n`. -/
theorem wp_gatherMax (I : Buf (Elt F) ((me d L).loc cc0_scratch0)) (X : Buf (Elt F) ((me d L).loc cc0_scratch1)) (hI : InRange d L I)
    (t : Fin k0_t1_loop.trips) : ∀ (n : Nat) (hn : n < 16) (Q : Vec F S16 .f32 → sProp 𝕄),
    iprop(iHeld d L I ∗ xHeld d L X ∗ ((iHeld d L I ∗ xHeld d L X) -∗ Q (fun x => rowMax X I n (laneOf t x))))
      ⊢ wp frame (wpE (defs₀ (F := F)) 𝒱₀ (me d L) none) Set.univ (gatherMax L sI sX t n hn) Q
  | 0, hn, Q => wp_gather1 d L I X hI 0 hn t Q
  | n + 1, hn, Q => by
    unfold gatherMax
    rw [wp_bind]
    iintro ⟨Hi, Hx, HQ⟩
    iapply (wp_gatherMax I X hI t n (Nat.lt_of_succ_lt hn))
    isplitl [Hi]; · iexact Hi
    isplitl [Hx]; · iexact Hx
    iintro ⟨Hi, Hx⟩
    rw [wp_bind]
    iapply (wp_gather1 d L I X hI (n + 1) hn t)
    isplitl [Hi]; · iexact Hi
    isplitl [Hx]; · iexact Hx
    iintro ⟨Hi, Hx⟩
    rw [wp_pure]; imodintro
    have hv : (fun x => rowMax X I (n + 1) (laneOf t x))
        = (maximumf (φ := .f32) (fun x => rowMax X I n (laneOf t x)) (fun x => pick X (I (ix2 (⟨n + 1, hn⟩ : Fin 16) (laneOf t x)))) : Vec F S16 .f32) := by
      funext x
      show FloatOps.maximumf _ (pick X (I (ix2 (⟨(n + 1) % 16, _⟩ : Fin 16) _))) = _
      have e : (⟨(n + 1) % 16, Nat.mod_lt _ (by decide)⟩ : Fin 16) = ⟨n + 1, hn⟩ := Fin.ext (Nat.mod_eq_of_lt hn)
      rw [e]; rfl
    ihave HQ' := HQ $$ [Hi Hx]
    · isplitl [Hi] <;> iassumption
    rw [hv]
    iexact HQ'

/-- The output row is filled up to trip `t`: its first `16 t` lanes are `rowMax`. -/
def Filled (I : Buf (Elt F) ((me d L).loc cc0_scratch0)) (X : Buf (Elt F) ((me d L).loc cc0_scratch1))
    (f : Buf (Elt F) ((me d L).loc cc0_scratch2)) (n : Nat) : Prop :=
  ∀ y : Fin 4096, y.val < 16 * n → f (ix1 y) = rowMax X I 15 y

/-- The rectangle of the output row that trip `t` stores to. -/
abbrev laneRect (t : Fin k0_t1_loop.trips) : Rect S4096 := Rect.unit (s := S4096) (k0_off19 t) S16.size (k0_off19_inb t)

/-- Lane `x` of that rectangle is output lane `16 t + x`. -/
theorem laneRect_emb (t : Fin k0_t1_loop.trips) (x : S16.Idx) : ((sO).access (laneRect t)).emb x = ix1 (laneOf t x) := by
  funext a
  apply Fin.ext
  have h := congrFun (k0_off19_eq t) a
  match a with
  | 0 => show k0_off19 t 0 + 1 * (x 0).val = 16 * t.val + (x 0).val; rw [h, Nat.one_mul]; rfl

/-- A trip's store fills sixteen more lanes. -/
theorem filled_step (I : Buf (Elt F) ((me d L).loc cc0_scratch0)) (X : Buf (Elt F) ((me d L).loc cc0_scratch1))
    (f : Buf (Elt F) ((me d L).loc cc0_scratch2)) (t : Fin k0_t1_loop.trips) (hf : Filled d L I X f t.val) :
    Filled d L I X (((sO).access (laneRect t)).write (Elt F) f (fun x => rowMax X I 15 (laneOf t x)) Finset.univ) (t.val + 1) := by
  intro y hy
  by_cases h : y.val < 16 * t.val
  · rw [View.write_of_not_mem]
    · exact hf y h
    · rw [View.setOn, Finset.mem_map]
      rintro ⟨x, -, hx⟩
      rw [laneRect_emb] at hx
      have := congrArg Fin.val (congrFun hx 0)
      change 16 * t.val + (x 0).val = y.val at this
      omega
  · have hx : laneOf t (ix1 (⟨y.val - 16 * t.val, by omega⟩ : Fin 16)) = y := Fin.ext (by
      show 16 * t.val + (y.val - 16 * t.val) = y.val; omega)
    have he := View.write_emb_of_mem (v := (sO).access (laneRect t)) (Val := Elt F) f (fun x => rowMax X I 15 (laneOf t x))
      (Finset.mem_univ (ix1 (⟨y.val - 16 * t.val, by omega⟩ : Fin 16)))
    rw [laneRect_emb, hx] at he
    exact he.trans (cast_eq _ _)

/-- Nothing is filled before the first trip. -/
theorem filled_zero (I : Buf (Elt F) ((me d L).loc cc0_scratch0)) (X : Buf (Elt F) ((me d L).loc cc0_scratch1))
    (f : Buf (Elt F) ((me d L).loc cc0_scratch2)) : Filled d L I X f 0 :=
  fun y hy => absurd hy (by omega)

/-- A filled output row is `rowMax` everywhere. -/
theorem filled_all (I : Buf (Elt F) ((me d L).loc cc0_scratch0)) (X : Buf (Elt F) ((me d L).loc cc0_scratch1))
    (f : Buf (Elt F) ((me d L).loc cc0_scratch2)) (h : Filled d L I X f k0_t1_loop.trips) :
    f = fun y => rowMax X I 15 (y 0 : Fin 4096) := by
  funext y
  have e : y = ix1 (n0 := 4096) (y 0) := eq_ix1 y
  have hy : (y 0).val < 16 * k0_t1_loop.trips := by
    show (y 0).val < 4096; exact (y 0).isLt
  exact (congrArg f e).trans (h (y 0) hy)

attribute [local irreducible] Filled rowMax gatherMax

/-- One trip: sixteen more lanes of the output row are filled. -/
theorem wp_trip (I : Buf (Elt F) ((me d L).loc cc0_scratch0)) (X : Buf (Elt F) ((me d L).loc cc0_scratch1)) (hI : InRange d L I)
    (t : Fin k0_t1_loop.trips) (Q : BitVec 32 → sProp 𝕄) :
    iprop(iHeld d L I ∗ xHeld d L X ∗ (∃ f, ⌜Filled d L I X f t.val⌝ ∗ oHeld d L f)
        ∗ ((iHeld d L I ∗ xHeld d L X ∗ (∃ f, ⌜Filled d L I X f (t.val + 1)⌝ ∗ oHeld d L f)) -∗ Q 0#32))
      ⊢ wp frame (wpE (defs₀ (F := F)) 𝒱₀ (me d L) none) Set.univ (trip L sI sX sO t) Q := by
  unfold trip
  rw [wp_bind]
  iintro ⟨Hi, Hx, ⟨%f, %hf, Ho⟩, HQ⟩
  iapply (wp_gatherMax d L I X hI t 15 _)
  isplitl [Hi]; · iexact Hi
  isplitl [Hx]; · iexact Hx
  iintro ⟨Hi, Hx⟩
  simp only [Prog.lift, Prog.bind_op, Prog.bind_ret]
  iapply (wp_load 𝒱₀ (me d L) none Set.univ (m := sO) (S := Finset.univ) (Finset.subset_univ _)) $$ Ho; iintro Ho
  iapply (wp_store 𝒱₀ (me d L) none Set.univ (m := sO) (r := laneRect t) (Mk := Finset.univ) (S := Finset.univ) (Finset.subset_univ _)) $$ Ho; iintro Ho
  rw [wp_pure]; imodintro
  iapply HQ
  isplitl [Hi]; · iexact Hi
  isplitl [Hx]; · iexact Hx
  iexists _
  isplitr
  · ipureintro; exact filled_step d L I X f t hf
  · iexact Ho

/-- The loop of a row: from any contents, the output row ends as `rowMax`. -/
theorem wp_loop (I : Buf (Elt F) ((me d L).loc cc0_scratch0)) (X : Buf (Elt F) ((me d L).loc cc0_scratch1)) (hI : InRange d L I)
    (Q : BitVec 32 → sProp 𝕄) :
    iprop(iHeld d L I ∗ xHeld d L X ∗ (∃ f, oHeld d L f)
        ∗ (∀ acc, (iHeld d L I ∗ xHeld d L X ∗ oHeld d L (fun y => rowMax X I 15 (y 0 : Fin 4096))) -∗ Q acc))
      ⊢ wp frame (wpE (defs₀ (F := F)) 𝒱₀ (me d L) none) Set.univ
          (Scf.Loop.for k0_t1_loop k0_t1_ok 0#32 (fun t _ => trip (F := F) L sI sX sO t)) Q := by
  refine BI.Entails.trans (Q := iprop((iHeld d L I ∗ xHeld d L X ∗ (∃ f, ⌜Filled d L I X f 0⌝ ∗ oHeld d L f))
      ∗ (∀ acc, (iHeld d L I ∗ xHeld d L X ∗ (∃ f, ⌜Filled d L I X f k0_t1_loop.trips⌝ ∗ oHeld d L f)) -∗ Q acc))) ?_
    (Scf.wp_for _ _ _ _ _ _ k0_t1_ok 0#32 (fun t _ => trip (F := F) L sI sX sO t)
    (fun n _ => iprop(iHeld d L I ∗ xHeld d L X ∗ (∃ f, ⌜Filled d L I X f n⌝ ∗ oHeld d L f))) ?_)
  · show (_ : sProp 𝕄) ⊢ _
    iintro ⟨Hi, Hx, ⟨%f, Ho⟩, HQ⟩
    isplitl [Hi Hx Ho]
    · isplitl [Hi]; · iexact Hi
      isplitl [Hx]; · iexact Hx
      iexists f
      isplitr
      · ipureintro; exact filled_zero d L I X f
      · iexact Ho
    iintro %acc ⟨Hi, Hx, %f, %hf, Ho⟩
    iapply HQ
    isplitl [Hi]; · iexact Hi
    isplitl [Hx]; · iexact Hx
    rw [← filled_all d L I X f hf]
    iexact Ho
  · intro t _
    refine BI.Entails.trans ?_ (wp_trip d L I X hI t _)
    show (_ : sProp 𝕄) ⊢ _
    iintro ⟨Hi, Hx, Ho⟩
    isplitl [Hi]; · iexact Hi
    isplitl [Hx]; · iexact Hx
    isplitl [Ho]; · iexact Ho
    iintro H; iexact H

end Cert.Proof.KernelIdeal

end
-- ==== Proof.KernelIdealRegions.lean ====
/-
The loop regions of five middle rows. Their printed regions are handed unused words besides, so each is shown equal to
`trip` on its own.
-/
module

public import proofs.«01_k».proof.Proof.KernelIdealTrip

@[expose] public section

set_option maxRecDepth 16384

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)

variable {F : FTy → Type} [FloatOps F]

/-- The region of the seventh row's loop is `trip`. -/
theorem region_seventh : k0_t7_body (F := F) = fun i _ _ _ _ _ _ a5 _ a6 _ a7 _
    _ _ _ _ _ _ _ _ _ _ _ _ _ _ _ _ _ _ _ _ _ _ _ _ _ _ _ _ _ _ _ _ _ _ _ t _ => trip i a5 a6 a7 t := by
  funext i _ _ _ _ _ _ a5 _ a6 _ a7 _
    _ _ _ _ _ _ _ _ _ _ _ _ _ _ _ _ _ _ _ _ _ _ _ _ _ _ _ _ _ _ _ _ _ _ _ t _
  simp only [k0_t7_body, k0_part13_eq_skeleton, k0_part14_eq_skeleton, k0_part13_skel, k0_part14_skel, trip, gatherMax, gather1,
    Prog.lift, Prog.bind_op, Prog.bind_ret, Prog.pure_eq_ret, SparseCore.vectorLoadIdx]
  rfl

/-- The region of the eighth row's loop is `trip`. -/
theorem region_eighth : k0_t8_body (F := F) = fun i _ _ _ _ _ _ a5 _ a6 _ a7 _
    _ _ _ _ _ _ _ _ _ _ _ _ _ _ _ _ _ _ _ _ _ _ _ _ _ _ _ _ _ _ _ _ _ _ _ t _ => trip i a5 a6 a7 t := by
  funext i _ _ _ _ _ _ a5 _ a6 _ a7 _
    _ _ _ _ _ _ _ _ _ _ _ _ _ _ _ _ _ _ _ _ _ _ _ _ _ _ _ _ _ _ _ _ _ _ _ t _
  simp only [k0_t8_body, k0_part15_eq_skeleton, k0_part16_eq_skeleton, k0_part15_skel, k0_part16_skel, trip, gatherMax, gather1,
    Prog.lift, Prog.bind_op, Prog.bind_ret, Prog.pure_eq_ret, SparseCore.vectorLoadIdx]
  rfl

/-- The region of the ninth row's loop is `trip`. -/
theorem region_ninth : k0_t9_body (F := F) = fun i _ _ _ _ _ _ a5 _ a6 _ a7 _
    _ _ _ _ _ _ _ _ _ _ _ _ _ _ _ _ _ _ _ _ _ _ _ _ _ _ _ _ _ _ _ _ _ _ _ t _ => trip i a5 a6 a7 t := by
  funext i _ _ _ _ _ _ a5 _ a6 _ a7 _
    _ _ _ _ _ _ _ _ _ _ _ _ _ _ _ _ _ _ _ _ _ _ _ _ _ _ _ _ _ _ _ _ _ _ _ t _
  simp only [k0_t9_body, k0_part17_eq_skeleton, k0_part18_eq_skeleton, k0_part17_skel, k0_part18_skel, trip, gatherMax, gather1,
    Prog.lift, Prog.bind_op, Prog.bind_ret, Prog.pure_eq_ret, SparseCore.vectorLoadIdx]
  rfl

/-- The region of the tenth row's loop is `trip`. -/
theorem region_tenth : k0_t10_body (F := F) = fun i _ _ _ _ _ _ a5 _ a6 _ a7 _
    _ _ _ _ _ _ _ _ _ _ _ _ _ _ _ _ _ _ _ _ _ _ _ _ _ _ _ _ _ _ _ _ _ _ _ _ t _ => trip i a5 a6 a7 t := by
  funext i _ _ _ _ _ _ a5 _ a6 _ a7 _
    _ _ _ _ _ _ _ _ _ _ _ _ _ _ _ _ _ _ _ _ _ _ _ _ _ _ _ _ _ _ _ _ _ _ _ _ t _
  simp only [k0_t10_body, k0_part19_eq_skeleton, k0_part20_eq_skeleton, k0_part19_skel, k0_part20_skel, trip, gatherMax, gather1,
    Prog.lift, Prog.bind_op, Prog.bind_ret, Prog.pure_eq_ret, SparseCore.vectorLoadIdx]
  rfl

/-- The region of the eleventh row's loop is `trip`. -/
theorem region_eleventh : k0_t11_body (F := F) = fun i _ _ _ _ _ _ a5 _ a6 _ a7 _
    _ _ _ _ _ _ _ _ _ _ _ _ _ _ _ _ _ _ _ _ _ _ _ _ _ _ _ _ _ _ _ _ _ _ _ _ t _ => trip i a5 a6 a7 t := by
  funext i _ _ _ _ _ _ a5 _ a6 _ a7 _
    _ _ _ _ _ _ _ _ _ _ _ _ _ _ _ _ _ _ _ _ _ _ _ _ _ _ _ _ _ _ _ _ _ _ _ _ t _
  simp only [k0_t11_body, k0_part21_eq_skeleton, k0_part22_eq_skeleton, k0_part21_skel, k0_part22_skel, trip, gatherMax, gather1,
    Prog.lift, Prog.bind_op, Prog.bind_ret, Prog.pure_eq_ret, SparseCore.vectorLoadIdx]
  rfl

end Cert.Proof.KernelIdeal
-- ==== Proof.KernelIdealBody.lean ====
/-
  The subcore's program in named parts: the copy of the index block, then sixteen times one row, which is the feature
  row's copy in, the 256 trips and the output row's copy out. The printed kernel is shown equal to that sequence.
-/
module

public import proofs.«01_k».proof.Proof.KernelIdealRegions

@[expose] public section

set_option maxRecDepth 16384

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)

variable {F : FTy → Type} [FloatOps F]

section Programs

variable (i : grid0.Coords)
  (a2 : Memref sig .scVector .hbm S512x16384 .f32) (a3 : Memref sig .scVector .hbm S8x16x4096 .i32)
  (a4 : Memref sig .scVector .hbm S512x4096 .f32)
  (a5 : Memref sig .scVector .vmem S16x4096 .i32) (h5 : a5.IsWhole) (a6 : Memref sig .scVector .vmem S16384 .f32) (h6 : a6.IsWhole)
  (a7 : Memref sig .scVector .vmem S4096 .f32) (h7 : a7.IsWhole)

/-- The block of index rows of the batch that subcore `i` works for. -/
abbrev idxBlock : Memref sig .scVector .hbm S16x4096 .i32 :=
  (a3.slice (Rect.unit (s := S8x16x4096) (k0_off1 i) S1x16x4096.size (k0_off1_inb i)) (fun _ => rfl)).squeeze S16x4096 squeezes_S1x16x4096_S16x4096

/-- The `j`-th feature row of subcore `i`. -/
abbrev featRow (j : Fin 16) : Memref sig .scVector .hbm S16384 .f32 :=
  (a2.slice (Rect.unit (s := S512x16384) (k0_off2 i (BitVec.ofNat 32 j.val)) S1x16384.size (k0_off2_inb i j)) (fun _ => rfl)).squeeze S16384 squeezes_S1x16384_S16384

/-- The `j`-th output row of subcore `i`. -/
abbrev outRow (j : Fin 16) : Memref sig .scVector .hbm S4096 .f32 :=
  (a4.slice (Rect.unit (s := S512x4096) (k0_off20 i (BitVec.ofNat 32 j.val)) S1x4096.size (k0_off20_inb i j)) (fun _ => rfl)).squeeze S4096 squeezes_S1x4096_S4096

/-- The index block is copied in and waited for. -/
def fetchIdx (sem : DmaSems sig S_) : Task F i PUnit := do
  Prog.lift (.enqueueDma (idxBlock i a3) (.here a5) (.dma sem.sem) ((View.wordExact_bits rfl).reshape _ _) h5.wordExact ⟨Or.inl rfl, trivial⟩)
  Prog.lift (.waitDma2 sem.sem (idxBlock i a3) a5 ((View.wordExact_bits rfl).reshape _ _) h5.wordExact)

/-- Row `j`: the feature row is copied in, the 256 trips fill the output row, and the output row is copied out. -/
def row (j : Fin 16) (si so : DmaSems sig S_) : Task F i PUnit := do
  Prog.lift (.enqueueDma (featRow i a2 j) (.here a6) (.dma si.sem) ((View.wordExact_bits rfl).reshape _ _) h6.wordExact ⟨Or.inl rfl, trivial⟩)
  Prog.lift (.waitDma2 si.sem (featRow i a2 j) a6 ((View.wordExact_bits rfl).reshape _ _) h6.wordExact)
  let _ ← Scf.Loop.for k0_t1_loop k0_t1_ok 0#32 (fun t _ => trip (F := F) i a5 a6 a7 t)
  Prog.lift (.enqueueDma a7 (.here (outRow i a4 j)) (.dma so.sem) h7.wordExact ((View.wordExact_bits rfl).reshape _ _) ⟨Or.inl rfl, trivial⟩)
  Prog.lift (.waitDma2 so.sem a7 (outRow i a4 j) h7.wordExact ((View.wordExact_bits rfl).reshape _ _))

end Programs

set_option maxHeartbeats 2000000 in
/-- The kernel on a vector subcore: the index block, then the sixteen rows. -/
theorem body_eq (i : grid0.Coords)
    (arg2 : Memref sig .scVector .hbm S512x16384 .f32) (harg2 : arg2.IsWhole) (arg3 : Memref sig .scVector .hbm S8x16x4096 .i32) (harg3 : arg3.IsWhole)
    (arg4 : Memref sig .scVector .hbm S512x4096 .f32) (harg4 : arg4.IsWhole)
    (arg5 : Memref sig .scVector .vmem S16x4096 .i32) (harg5 : arg5.IsWhole) (arg6 : Memref sig .scVector .vmem S16384 .f32) (harg6 : arg6.IsWhole)
    (arg7 : Memref sig .scVector .vmem S4096 .f32) (harg7 : arg7.IsWhole)
    (v83_r0 v83_r1 v83_r2 v83_r3 v83_r4 v83_r5 v83_r6 v83_r7 v83_r8 v83_r9 v83_r10 v83_r11 v83_r12 v83_r13 v83_r14 v83_r15 v83_r16 v83_r17 v83_r18 v83_r19 v83_r20 v83_r21 v83_r22 v83_r23 v83_r24 v83_r25 v83_r26 v83_r27 v83_r28 v83_r29 v83_r30 v83_r31 v83_r32 : DmaSems sig S_) :
    cc0_gather_max (F := F) i arg2 harg2 arg3 harg3 arg4 harg4 arg5 harg5 arg6 harg6 arg7 harg7
        v83_r0 v83_r1 v83_r2 v83_r3 v83_r4 v83_r5 v83_r6 v83_r7 v83_r8 v83_r9 v83_r10 v83_r11 v83_r12 v83_r13 v83_r14 v83_r15 v83_r16 v83_r17 v83_r18 v83_r19 v83_r20 v83_r21 v83_r22 v83_r23 v83_r24 v83_r25 v83_r26 v83_r27 v83_r28 v83_r29 v83_r30 v83_r31 v83_r32
      = (do
        fetchIdx i arg3 arg5 harg5 v83_r0
        row i arg2 arg4 arg5 arg6 harg6 arg7 harg7 0 v83_r1 v83_r2
        row i arg2 arg4 arg5 arg6 harg6 arg7 harg7 1 v83_r3 v83_r4
        row i arg2 arg4 arg5 arg6 harg6 arg7 harg7 2 v83_r5 v83_r6
        row i arg2 arg4 arg5 arg6 harg6 arg7 harg7 3 v83_r7 v83_r8
        row i arg2 arg4 arg5 arg6 harg6 arg7 harg7 4 v83_r9 v83_r10
        row i arg2 arg4 arg5 arg6 harg6 arg7 harg7 5 v83_r11 v83_r12
        row i arg2 arg4 arg5 arg6 harg6 arg7 harg7 6 v83_r13 v83_r14
        row i arg2 arg4 arg5 arg6 harg6 arg7 harg7 7 v83_r15 v83_r16
        row i arg2 arg4 arg5 arg6 harg6 arg7 harg7 8 v83_r17 v83_r18
        row i arg2 arg4 arg5 arg6 harg6 arg7 harg7 9 v83_r19 v83_r20
        row i arg2 arg4 arg5 arg6 harg6 arg7 harg7 10 v83_r21 v83_r22
        row i arg2 arg4 arg5 arg6 harg6 arg7 harg7 11 v83_r23 v83_r24
        row i arg2 arg4 arg5 arg6 harg6 arg7 harg7 12 v83_r25 v83_r26
        row i arg2 arg4 arg5 arg6 harg6 arg7 harg7 13 v83_r27 v83_r28
        row i arg2 arg4 arg5 arg6 harg6 arg7 harg7 14 v83_r29 v83_r30
        row i arg2 arg4 arg5 arg6 harg6 arg7 harg7 15 v83_r31 v83_r32) := by
  obtain ⟨e2, e3, e4, e5, e6, e12, e13, e14, e15, e16⟩ := regions_same (F := F)
  simp only [cc0_gather_max_eq_skeleton, cc0_gather_max_skel, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton,
    k0_part33_skel, k0_part34_skel, k0_part35_skel, k0_part36_skel, k0_part37_skel, k0_part38_skel, k0_part39_skel, k0_part40_skel, k0_part41_skel, k0_part42_skel, k0_part43_skel,
    e2, e3, e4, e5, e6, region_seventh, region_eighth, region_ninth, region_tenth, region_eleventh, e12, e13, e14, e15, e16, region_first, fetchIdx, row,
    Prog.lift, Prog.bind_op, Prog.bind_ret, Prog.pure_eq_ret, bind_assoc]
  rfl

end Cert.Proof.KernelIdeal

end
-- ==== Proof.KernelIdealRow.lean ====
/-
  The rule for one feature row of a vector subcore: the row is copied in, its loop runs, and the output row is copied out.
-/
module

public import proofs.«01_k».proof.Proof.KernelIdealWp
public import proofs.«01_k».proof.Proof.KernelIdealBody

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)
open Idealize.ShloMosaic.Rounds
open Idealize.ShloMosaic.Tactic

variable {F : FTy → Type} [FloatOps F]

local notation "𝕄" => MT nD τ sig (HIx 1) (Elt F) ℕ UU ℕ

/-- The program's labels, and its SparseCore configuration. -/
abbrev ΛP : Labels := Pipeline.Sig Λ₀ (Fin 0) fun p => (pcfgs (F := F) p).Adm
abbrev K : SparseCore.Cfg τ sig (ΛP (F := F)) 1 := sc (F := F)

/-- The kernel's three operands as a vector subcore names them: the features, the indices, the output. -/
abbrev featV : Memref sig .scVector .hbm S512x16384 .f32 := Memref.whole main_v0_scv
abbrev idxV : Memref sig .scVector .hbm S8x16x4096 .i32 := Memref.whole main_v1_scv
abbrev outV : Memref sig .scVector .hbm S512x4096 .f32 := Memref.whole main_v2_scv

/-- The same three arrays on device `d`. -/
abbrev featLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2

attribute [local irreducible] rowMax

variable (d : Dev nD) (L : grid0.Coords)

/-- A semaphore of the subcore at zero. -/
abbrev semZero (s : DmaSems sig S_) : sProp 𝕄 := semVal (me d L, SemLoc.dma s.sem) 0

/-- Output row `j` of the subcore, at contents `f`. -/
abbrev outRowPts (j : Fin 16) (f : Buf (Elt F) (outLoc d)) : sProp 𝕄 :=
  (outRow L outV j).view.loc (me d L) ↦[(outRow L outV j).view.set]{fullShare} f

omit [FloatOps F] in
/-- An output row written whole with values that `G` has there is held at `G`. -/
theorem row_written (j : Fin 16) (f G : Buf (Elt F) (outLoc d)) (v pay : S4096.Idx → F .f32)
    (hG : ∀ y : S4096.Idx, G ((outRow L outV j).view.emb y) = v y) (hpay : pay = v) :
    outRowPts d L j ((outRow L outV j).view.writes (Elt F) f [⟨Rect.whole S4096, pay⟩]) = outRowPts d L j G := by
  refine pointsTo_congr fun x hx => ?_
  obtain ⟨y, -, rfl⟩ := Finset.mem_map.mp hx
  have hw : (Rect.whole S4096).emb y = y := by
    funext a; apply Fin.ext; show 0 + 1 * (y a).val = (y a).val; omega
  have hr := View.read_writes_cons_hit (Val := Elt F) (outRow L outV j).view f (Rect.whole S4096) pay [] y y hw
  rw [View.read_apply] at hr
  rw [hG y, ← hpay]
  exact (cast_eq _ _).symm.trans hr

/-- One row: with the index block staged and in range, output row `j` ends at `G`, whenever `G` is the maxima there. -/
theorem wp_row (O : CellTallies nD τ sig (HIx 1)) (W : Waits sig (HIx 1)) (hO : ∀ g, O g none = 0)
    (q : PosShare TreeShare) (A : Buf (Elt F) (featLoc d))
    (I : Buf (Elt F) ((me d L).loc cc0_scratch0)) (hI : InRange d L I) (j : Fin 16) (si so : DmaSems sig S_)
    (f G : Buf (Elt F) (outLoc d))
    (hG : ∀ y : S4096.Idx, G ((outRow L outV j).view.emb y) = rowMax ((featRow L featV j).view.read (Elt F) A) I 15 (y 0 : Fin 4096)) :
    iprop(levAts (K (F := F)).L (K (F := F)).lev ∗ (featV.view.loc (me d L) ↦{q} A) ∗ iHeld d L I ∗ (∃ X, xHeld d L X) ∗ (∃ f, oHeld d L f)
        ∗ outRowPts d L j f ∗ semZero d L si ∗ semZero d L so ∗ owes (me d L) O W)
      ⊢ wp frame (wpE (defs₀ (F := F)) 𝒱₀ (me d L) none) Set.univ
          (row L featV outV sI sX (Memref.isWhole_whole _) sO (Memref.isWhole_whole _) j si so)
          fun _ => iprop((featV.view.loc (me d L) ↦{q} A) ∗ iHeld d L I ∗ (∃ X, xHeld d L X) ∗ (∃ f, oHeld d L f)
            ∗ outRowPts d L j G ∗ semZero d L si ∗ semZero d L so ∗ ∃ W', ⌜∀ p ∈ W', p ∈ W ∨ p.2 = none⌝ ∗ owes (me d L) O W') := by
  unfold row
  iintro ⟨#Hlv, Hf, Hi, ⟨%X0, Hx⟩, ⟨%f0, Ho⟩, Hr, Hsi, Hso, HO⟩
  ihave Hmw := (show levAts (K (F := F)).L (K (F := F)).lev ⊢ Transfers.MayWaits (me d L) (default : HIx 1) O from
    (K (F := F)).mayWaits_none (thr := me d L) hO) $$ Hlv
  sl_exec
  have hX : View.write (Elt F) sX.view X0 (wp_row.sl.dma0 d L A j) Finset.univ = (featRow L featV j).view.read (Elt F) A :=
    View.write_whole_univ _ _ _
  rw [hX, wp_bind]
  iapply (wp_loop d L I _ hI)
  isplitl [Hi]; · iexact Hi
  isplitl [Hx]; · iexact Hx
  isplitl [Ho]; · iexists f0; iexact Ho
  iintro %acc ⟨Hi, Hx, Ho⟩
  sl_exec
  sl_step
  isplitl [Hf]; · iexact Hf
  isplitl [Hi]; · iexact Hi
  isplitl [Hx]; · iexists _; iexact Hx
  isplitl [Ho]; · iexists _; iexact Ho
  isplitl [Hr]
  · iapply (Entails.of_eq (row_written d L j f G _ _ hG rfl))
    iexact Hr
  isplitl [Hsi]; · iexact Hsi
  isplitl [Hso]; · iexact Hso
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Proof.KernelIdeal

end
-- ==== Proof.KernelIdealPlace.lean ====
/-
  Where the kernel's rows lie.

  Subcore `(c, s)` works for output rows `32 s + 16 c, …, 32 s + 16 c + 15`, all of batch `(2 s + c) / 4`. The views that
  the kernel slices out of its operands are those rows and that batch's index block, so a row's value is the row of
  `maxima`; and the output array falls into the two SparseCores' parts, each of those into sixteen subcores' parts, and
  each of those into sixteen rows.
-/
module

public import proofs.«01_k».proof.Proof.KernelIdealRow

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)
open Idealize.ShloMosaic.Rounds
open Idealize.ShloMosaic.Tactic

variable {F : FTy → Type}

local notation "𝕄" => MT nD τ sig (HIx 1) (Elt F) ℕ UU ℕ

/-! ## The views -/

/-- The grid's extents, as numbers. -/
theorem bound_zero : grid0.bound 0 = 2 := rfl
theorem bound_one : grid0.bound 1 = 16 := rfl

/-- The SparseCore, and the subcore in it, of grid coordinates. -/
abbrev cL (L : grid0.Coords) : Fin 2 := Fin.cast bound_zero (L 0)
abbrev sL (L : grid0.Coords) : Fin 16 := Fin.cast bound_one (L 1)

/-- The `j`-th row of subcore `s` of SparseCore `c`. -/
def rowNo (c : Fin 2) (s : Fin 16) (j : Fin 16) : Fin 512 :=
  ⟨32 * s.val + 16 * c.val + j.val, by have := c.isLt; have := s.isLt; have := j.isLt; omega⟩

theorem k0_off1_eq : ∀ i : grid0.Coords, k0_off1 i = ![(2 * (i 1).val + (i 0).val) / 4, 0, 0] := by decide +kernel

/-- A view without its leading axis of extent one names the element whose coordinate there is zero. -/
theorem dropUnit_index {n : Nat} (d : Fin n → Nat) (h : (⟨n + 1, Matrix.vecCons 1 d⟩ : Shape).ShapeCasts ⟨n, d⟩) (y : (⟨n, d⟩ : Shape).Idx) :
    Shape.reshapeEquiv h y = (Fin.cons (⟨0, Nat.one_pos⟩ : Fin 1) y : (a : Fin (n + 1)) → Fin (Matrix.vecCons 1 d a)) :=
  shapeCast_dropUnit_apply d (fun z => z) h y

variable (L : grid0.Coords) (j : Fin 16)

/-- Lane `y` of the subcore's output row `j`, in the output array. -/
theorem outRow_emb (y : S4096.Idx) : (outRow L outV j).view.emb y = ix2 (rowNo (cL L) (sL L) j) (y 0 : Fin 4096) := by
  have e := dropUnit_index ![4096] (by decide) y
  have ho := k0_off20_eq L j
  show (Rect.unit (s := S512x4096) (k0_off20 L (BitVec.ofNat 32 j.val)) S1x4096.size (k0_off20_inb L j)).emb (Shape.reshapeEquiv _ y) = _
  rw [e]
  funext a
  apply Fin.ext
  have h := congrFun ho a
  match a with
  | 0 => show k0_off20 L (BitVec.ofNat 32 j.val) 0 + 1 * 0 = _; rw [h]; rfl
  | 1 => show k0_off20 L (BitVec.ofNat 32 j.val) 1 + 1 * (y 0).val = _; rw [h, Nat.one_mul]; exact Nat.zero_add _

/-- The subcore's feature row `j`, as it reads the feature array. -/
theorem featRow_read (A : S512x16384.Idx → F .f32) :
    (featRow L featV j).view.read (Elt F) A = featOf A (rowNo (cL L) (sL L) j) := by
  funext y
  have e := dropUnit_index ![16384] (by decide) y
  have ho := k0_off2_eq L j
  rw [View.read_apply]
  refine (cast_eq _ _).trans (congrArg A ?_)
  show (Rect.unit (s := S512x16384) (k0_off2 L (BitVec.ofNat 32 j.val)) S1x16384.size (k0_off2_inb L j)).emb (Shape.reshapeEquiv _ y) = _
  rw [e]
  funext a
  apply Fin.ext
  have h := congrFun ho a
  match a with
  | 0 => show k0_off2 L (BitVec.ofNat 32 j.val) 0 + 1 * 0 = _; rw [h]; rfl
  | 1 => show k0_off2 L (BitVec.ofNat 32 j.val) 1 + 1 * (y 0).val = _; rw [h, Nat.one_mul]; exact Nat.zero_add _

/-- The subcore's index block, as it reads the index array. -/
theorem idxBlock_read (J : S8x16x4096.Idx → BitVec 32) :
    (idxBlock L idxV).view.read (Elt F) J = idxOf J (batchOf (rowNo (cL L) (sL L) j)) := by
  funext y
  have e := dropUnit_index ![16, 4096] (by decide) y
  have ho := k0_off1_eq L
  rw [View.read_apply]
  refine (cast_eq _ _).trans (congrArg J ?_)
  show (Rect.unit (s := S8x16x4096) (k0_off1 L) S1x16x4096.size (k0_off1_inb L)).emb (Shape.reshapeEquiv _ y) = _
  rw [e]
  funext a
  apply Fin.ext
  have h := congrFun ho a
  match a with
  | 0 =>
    show k0_off1 L 0 + 1 * 0 = (32 * (L 1).val + 16 * (L 0).val + j.val) / 64
    rw [h]
    show (2 * (L 1).val + (L 0).val) / 4 + 1 * 0 = _
    have := j.isLt
    omega
  | 1 => show k0_off1 L 1 + 1 * (y 0).val = _; rw [h, Nat.one_mul]; exact Nat.zero_add _
  | 2 => show k0_off1 L 2 + 1 * (y 1).val = _; rw [h, Nat.one_mul]; exact Nat.zero_add _

/-- The maxima at the subcore's row `j` are the fold over its own feature row and index block. -/
theorem maxima_row [FloatOps F] (A : S512x16384.Idx → F .f32) (J : S8x16x4096.Idx → BitVec 32) (y : S4096.Idx) :
    maxima A J ((outRow L outV j).view.emb y)
      = rowMax ((featRow L featV j).view.read (Elt F) A) ((idxBlock L idxV).view.read (Elt F) J) 15 (y 0 : Fin 4096) := by
  rw [outRow_emb, featRow_read, idxBlock_read (F := F) L j]
  rfl

/-! ## The parts of the output array -/

/-- The SparseCore, the subcore and the row of the subcore that an output element belongs to. -/
def coreOf (z : S512x4096.Idx) : Fin 2 := ⟨(z 0).val / 16 % 2, Nat.mod_lt _ (by decide)⟩
def subOf (z : S512x4096.Idx) : Fin 16 := ⟨(z 0).val / 32, by have : (z 0).val < 512 := (z 0).isLt; omega⟩
def slotOf (z : S512x4096.Idx) : Fin 16 := ⟨(z 0).val % 16, Nat.mod_lt _ (by decide)⟩

/-- SparseCore `c`'s part of the output; subcore `s`'s part of that; its row `j`. -/
def corePart (c : Fin 2) : Finset S512x4096.Idx := Finset.univ.filter fun z => coreOf z = c
def subPart (c : Fin 2) (s : Fin 16) : Finset S512x4096.Idx := (corePart c).filter fun z => subOf z = s
def rowPart (c : Fin 2) (s : Fin 16) (j : Fin 16) : Finset S512x4096.Idx := (subPart c s).filter fun z => slotOf z = j

theorem mem_rowPart {c : Fin 2} {s j : Fin 16} {z : S512x4096.Idx} :
    z ∈ rowPart c s j ↔ (coreOf z = c ∧ subOf z = s) ∧ slotOf z = j := by
  rw [rowPart, subPart, corePart, Finset.mem_filter, Finset.mem_filter, Finset.mem_filter]
  exact ⟨fun h => ⟨⟨h.1.1.2, h.1.2⟩, h.2⟩, fun h => ⟨⟨⟨Finset.mem_univ _, h.1.1⟩, h.1.2⟩, h.2⟩⟩

/-- The kernel's view of output row `j` covers that row's elements. -/
theorem outRow_set : (outRow L outV j).view.set = rowPart (cL L) (sL L) j := by
  ext z
  have hc : (L 0).val < 2 := (L 0).isLt
  have hs : (L 1).val < 16 := (L 1).isLt
  have hj := j.isLt
  constructor
  · intro hz
    obtain ⟨y, -, rfl⟩ := Finset.mem_map.mp hz
    rw [outRow_emb]
    refine mem_rowPart.mpr ⟨⟨Fin.ext ?_, Fin.ext ?_⟩, Fin.ext ?_⟩
    · show (32 * (L 1).val + 16 * (L 0).val + j.val) / 16 % 2 = (L 0).val; omega
    · show (32 * (L 1).val + 16 * (L 0).val + j.val) / 32 = (L 1).val; omega
    · show (32 * (L 1).val + 16 * (L 0).val + j.val) % 16 = j.val; omega
  · intro hz
    obtain ⟨⟨h1, h2⟩, h3⟩ := mem_rowPart.mp hz
    have h1 : (z 0).val / 16 % 2 = (L 0).val := congrArg Fin.val h1
    have h2 : (z 0).val / 32 = (L 1).val := congrArg Fin.val h2
    have h3 : (z 0).val % 16 = j.val := congrArg Fin.val h3
    refine Finset.mem_map.mpr ⟨ix1 (z 1 : Fin 4096), Finset.mem_univ _, ?_⟩
    rw [outRow_emb]
    refine Eq.trans ?_ (eq_ix2 (n0 := 512) (n1 := 4096) z).symm
    congr 1
    apply Fin.ext
    show 32 * (L 1).val + 16 * (L 0).val + j.val = (z 0).val
    omega

/-- Elements held, cut by a key: each key's elements apart. -/
theorem pts_cut {ℓ : Loc nD τ sig} {n : Nat} (S : Finset (Idx ℓ)) (key : Idx ℓ → Fin n) (f : Buf (Elt F) ℓ) :
    (ℓ ↦[S]{fullShare} f : sProp 𝕄) = bigSep Finset.univ fun i : Fin n => ℓ ↦[S.filter fun z => key z = i]{fullShare} f := by
  rw [← pointsTo_biUnion Finset.univ (ℓ := ℓ) (fun i : Fin n => S.filter fun z => key z = i)]
  · congr 1
    ext z
    simp
  · intro a _ b _ hab
    exact Finset.disjoint_filter.mpr fun z _ h h' => hab (h.symm.trans h')

end Cert.Proof.KernelIdeal

end
-- ==== Proof.KernelIdealTile.lean ====
/-
  One vector subcore's whole task: the index block is fetched, and its sixteen rows follow one after another.
-/
module

public import proofs.«01_k».proof.Proof.KernelIdealPlace

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx ownBufs ownSems0 ownCells ownRefs mem_ownCells)
open Idealize.ShloMosaic.Rounds
open Idealize.ShloMosaic.Tactic

variable {F : FTy → Type} [FloatOps F]

local notation "𝕄" => MT nD τ sig (HIx 1) (Elt F) ℕ UU ℕ

attribute [local irreducible] rowMax maxima

/-! ## The task as a sequence of rows -/

theorem semAt_le (k : Fin 33) : k.val + S_.numel ≤ 33 := by
  rw [(by decide : S_.numel = 1)]; exact k.isLt

/-- The kernel's scoped semaphores by number; the ones that row `j` copies in and out on. -/
abbrev semAt (k : Fin 33) : DmaSems sig S_ := SemArray.consecutive k.val S_ (semAt_le k)
abbrev inSem (j : Fin 16) : DmaSems sig S_ := semAt ⟨2 * j.val + 1, by omega⟩
abbrev outSem (j : Fin 16) : DmaSems sig S_ := semAt ⟨2 * j.val + 2, by omega⟩

/-- Row `j` of subcore `L`, on its own semaphores. -/
abbrev rowAt (L : grid0.Coords) (j : Fin 16) : Task F L PUnit :=
  row L featV outV sI sX (Memref.isWhole_whole _) sO (Memref.isWhole_whole _) j (inSem j) (outSem j)

/-- `k` rows from row `n` on. -/
def rowsFrom (L : grid0.Coords) : Nat → Nat → Task F L PUnit
  | 0, _ => pure ⟨⟩
  | k + 1, n => rowAt L (Fin.ofNat 16 n) >>= fun _ => rowsFrom L k (n + 1)

theorem rowsFrom_zero (L : grid0.Coords) (n : Nat) : rowsFrom (F := F) L 0 n = pure ⟨⟩ := rfl
theorem rowsFrom_succ (L : grid0.Coords) (k n : Nat) :
    rowsFrom (F := F) L (k + 1) n = (rowAt L (Fin.ofNat 16 n) >>= fun _ => rowsFrom L k (n + 1)) := rfl

/-- The printed task of subcore `L` is the fetch and the sixteen rows. -/
theorem task_eq (L : grid0.Coords) :
    cc0_gather_max (F := F) L (Memref.whole main_v0_scv) (Memref.isWhole_whole _) (Memref.whole main_v1_scv) (Memref.isWhole_whole _)
        (Memref.whole main_v2_scv) (Memref.isWhole_whole _) (Memref.whole cc0_scratch0) (Memref.isWhole_whole _) (Memref.whole cc0_scratch1) (Memref.isWhole_whole _)
        (Memref.whole cc0_scratch2) (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32
      = (fetchIdx L idxV sI (Memref.isWhole_whole _) (semAt 0) >>= fun _ => rowsFrom L 16 0) := by
  rw [body_eq]
  simp only [rowsFrom_succ, rowsFrom_zero, bind_pure_unit]
  rfl

variable (d : Dev nD) (L : grid0.Coords)

/-! ## The subcore's own semaphores and buffers -/

theorem semAt_val (k : Fin 33) : ((semAt k).sem : Fin 33) = k :=
  Fin.ext (Nat.add_eq_left.mpr (Nat.lt_one_iff.mp (lt_of_lt_of_eq (S_.rowMajor fun i => i.elim0).isLt (by decide : S_.numel = 1))))

/-- The cell of semaphore `k`, on subcore `L`. -/
abbrev cell (k : Fin 33) : GSem nD τ sig := (me d L, SemLoc.dma (semAt k).sem)

theorem cell_inj {k k' : Fin 33} (h : cell d L k = cell d L k') : k = k' := by
  have e := SemLoc.dma.inj (Prod.mk.inj h).2
  rw [← semAt_val k, ← semAt_val k']
  exact e

theorem scoped_all : ∀ x : Fin 33, (SemLoc.dma x : SemLoc sig).isScoped .scVector = true := by decide

theorem cell_own (k : Fin 33) : cell d L k ∈ ownCells (me d L) := mem_ownCells.mpr ⟨rfl, scoped_all (semAt k).sem⟩

/-- The cells that the rows copy in on, and the ones they copy out on. -/
abbrev inCells : Finset (GSem nD τ sig) := Finset.univ.image fun j : Fin 16 => cell d L ⟨2 * j.val + 1, by omega⟩
abbrev outCells : Finset (GSem nD τ sig) := Finset.univ.image fun j : Fin 16 => cell d L ⟨2 * j.val + 2, by omega⟩

omit [FloatOps F] in
/-- The subcore's semaphores at zero are the fetch's, the rows' and the rest. -/
theorem ownSems0_cut :
    (ownSems0 (me d L) : sProp 𝕄)
      = iprop(semZero d L (semAt 0) ∗ (bigSep Finset.univ fun j : Fin 16 => semZero d L (inSem j))
          ∗ (bigSep Finset.univ fun j : Fin 16 => semZero d L (outSem j))
          ∗ bigSep ((((ownCells (me d L)).erase (cell d L 0)) \ inCells d L) \ outCells d L) fun g => semVal g 0) := by
  unfold SparseCore.Cfg.ownSems0
  have h1 : inCells d L ⊆ (ownCells (me d L)).erase (cell d L 0) := fun g hg => by
    obtain ⟨j, -, rfl⟩ := Finset.mem_image.mp hg
    refine Finset.mem_erase.mpr ⟨fun e => ?_, cell_own d L _⟩
    have := congrArg Fin.val (cell_inj d L e)
    simp at this
  have h2 : outCells d L ⊆ ((ownCells (me d L)).erase (cell d L 0)) \ inCells d L := fun g hg => by
    obtain ⟨j, -, rfl⟩ := Finset.mem_image.mp hg
    refine Finset.mem_sdiff.mpr ⟨Finset.mem_erase.mpr ⟨fun e => ?_, cell_own d L _⟩, fun hm => ?_⟩
    · have := congrArg Fin.val (cell_inj d L e)
      simp at this
    · obtain ⟨j', -, e⟩ := Finset.mem_image.mp hm
      have := congrArg Fin.val (cell_inj d L e)
      simp only at this
      omega
  rw [SparseCore.bigSep_erase' (cell_own d L 0), SparseCore.bigSep_sdiff_split' h1, SparseCore.bigSep_sdiff_split' h2,
    SparseCore.bigSep_image_of_injOn (fun a _ b _ e => Fin.ext (by have := congrArg Fin.val (cell_inj d L e); simp only at this; omega)),
    SparseCore.bigSep_image_of_injOn (fun a _ b _ e => Fin.ext (by have := congrArg Fin.val (cell_inj d L e); simp only at this; omega))]

omit [FloatOps F] in
/-- The subcore's buffers are its three scratch buffers and the rest. -/
theorem ownBufs_cut :
    (ownBufs (me d L) : sProp 𝕄)
      = iprop((∃ f, (me d L).loc cc0_scratch0 ↦{fullShare} f) ∗ (∃ f, (me d L).loc cc0_scratch1 ↦{fullShare} f) ∗ (∃ f, (me d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have own : ∀ r : Ref sig .scVector, ((Proc.scVector (cV L) (jV L)).devRef r).owner = .proc (Proc.scVector (cV L) (jV L)) →
      (Proc.scVector (cV L) (jV L)).devRef r ∈ ownRefs (τ := τ) (.scVector (cV L) (jV L)) := fun r h => SparseCore.Cfg.mem_ownRefs_of_owner h
  have ne : ∀ {r r' : Ref sig .scVector}, r ≠ r' → (Proc.scVector (cV L) (jV L)).devRef r ≠ (Proc.scVector (cV L) (jV L)).devRef r' :=
    fun h e => h (Proc.devRef_injective _ e)
  refine (SparseCore.bigSep_erase' (own cc0_scratch0 rfl)).trans ?_
  rw [SparseCore.bigSep_erase' (Finset.mem_erase.mpr ⟨ne (by decide : (cc0_scratch1 : Ref sig .scVector) ≠ cc0_scratch0), own cc0_scratch1 rfl⟩),
    SparseCore.bigSep_erase' (Finset.mem_erase.mpr ⟨ne (by decide : (cc0_scratch2 : Ref sig .scVector) ≠ cc0_scratch1),
      Finset.mem_erase.mpr ⟨ne (by decide : (cc0_scratch2 : Ref sig .scVector) ≠ cc0_scratch0), own cc0_scratch2 rfl⟩⟩)]

/-! ## The rows -/

/-- What row `j` works on besides the shared buffers: its output row at `f`, and its two semaphores at zero. -/
abbrev rowHeld (f : Buf (Elt F) (outLoc d)) (j : Fin 16) : sProp 𝕄 :=
  iprop(outRowPts d L j f ∗ semZero d L (inSem j) ∗ semZero d L (outSem j))

/-- The rows when those before `n` are done. -/
abbrev rowsHeld (f G : Buf (Elt F) (outLoc d)) (n : Nat) : sProp 𝕄 :=
  bigSep Finset.univ fun j : Fin 16 => rowHeld d L (if j.val < n then G else f) j

omit [FloatOps F] in
/-- Row `n` apart from the others, which stay as they are when it gets done. -/
theorem rowsHeld_at (f G : Buf (Elt F) (outLoc d)) (j : Fin 16) :
    (rowsHeld d L f G j.val = iprop(rowHeld d L f j ∗ bigSep (Finset.univ.erase j) fun i : Fin 16 => rowHeld d L (if i.val < j.val then G else f) i))
      ∧ (rowsHeld d L f G (j.val + 1) = iprop(rowHeld d L G j ∗ bigSep (Finset.univ.erase j) fun i : Fin 16 => rowHeld d L (if i.val < j.val then G else f) i)) := by
  constructor
  · refine (SparseCore.bigSep_erase' (Finset.mem_univ j)).trans ?_
    rw [if_neg (Nat.lt_irrefl _)]
  · refine (SparseCore.bigSep_erase' (Finset.mem_univ j)).trans ?_
    rw [if_pos (Nat.lt_succ_self _)]
    congr 1
    refine BI.bigSep_congr fun i hi => ?_
    have hne : i.val ≠ j.val := fun e => (Finset.mem_erase.mp hi).1 (Fin.ext e)
    by_cases h : i.val < j.val
    · rw [if_pos h, if_pos (Nat.lt_succ_of_lt h)]
    · rw [if_neg h, if_neg (by omega)]

set_option maxHeartbeats 1000000 in
/-- The rows from `n` on end with every row at the maxima. -/
theorem wp_rows (O : CellTallies nD τ sig (HIx 1)) (hO : ∀ g, O g none = 0) (q : PosShare TreeShare)
    (A : Buf (Elt F) (featLoc d)) (I : Buf (Elt F) ((me d L).loc cc0_scratch0)) (hI : InRange d L I) (f G : Buf (Elt F) (outLoc d))
    (hG : ∀ (j : Fin 16) (y : S4096.Idx), G ((outRow L outV j).view.emb y) = rowMax ((featRow L featV j).view.read (Elt F) A) I 15 (y 0 : Fin 4096)) :
    ∀ (k n : Nat), n + k = 16 → ∀ W : Waits sig (HIx 1),
    iprop(levAts (K (F := F)).L (K (F := F)).lev ∗ (featV.view.loc (me d L) ↦{q} A) ∗ iHeld d L I ∗ (∃ X, xHeld d L X) ∗ (∃ f, oHeld d L f)
        ∗ rowsHeld d L f G n ∗ owes (me d L) O W)
      ⊢ wp frame (wpE (defs₀ (F := F)) 𝒱₀ (me d L) none) Set.univ (rowsFrom L k n)
          fun _ => iprop((featV.view.loc (me d L) ↦{q} A) ∗ iHeld d L I ∗ (∃ X, xHeld d L X) ∗ (∃ f, oHeld d L f)
            ∗ rowsHeld d L f G 16 ∗ ∃ W', ⌜∀ p ∈ W', p ∈ W ∨ p.2 = none⌝ ∗ owes (me d L) O W') := by
  intro k
  induction k with
  | zero =>
    intro n hn W
    obtain rfl : n = 16 := by omega
    rw [rowsFrom_zero, wp_pure]
    iintro ⟨-, Hf, Hi, Hx, Ho, Hr, HO⟩
    imodintro
    isplitl [Hf]; · iexact Hf
    isplitl [Hi]; · iexact Hi
    isplitl [Hx]; · iexact Hx
    isplitl [Ho]; · iexact Ho
    isplitl [Hr]; · iexact Hr
    iexists W; isplitr
    swap; · iexact HO
    ipureintro; intro p hp; exact .inl hp
  | succ k ih =>
    intro n hn W
    have hlt : n < 16 := by omega
    have hj : Fin.ofNat 16 n = (⟨n, hlt⟩ : Fin 16) := Fin.ext (Nat.mod_eq_of_lt hlt)
    obtain ⟨e1, e2⟩ := rowsHeld_at (F := F) d L f G ⟨n, hlt⟩
    rw [rowsFrom_succ, wp_bind, hj, e1]
    iintro ⟨#Hlv, Hf, Hi, Hx, Ho, ⟨⟨Hr, Hsi, Hso⟩, Hrest⟩, HO⟩
    iapply (wp_wand_r frame _ Set.univ)
    isplitl [Hf Hi Hx Ho Hr Hsi Hso HO]
    · iapply (wp_row d L O W hO q A I hI ⟨n, hlt⟩ (inSem ⟨n, hlt⟩) (outSem ⟨n, hlt⟩) f G (hG ⟨n, hlt⟩))
      isplitr; · iexact Hlv
      isplitl [Hf]; · iexact Hf
      isplitl [Hi]; · iexact Hi
      isplitl [Hx]; · iexact Hx
      isplitl [Ho]; · iexact Ho
      isplitl [Hr]; · iexact Hr
      isplitl [Hsi]; · iexact Hsi
      isplitl [Hso]; · iexact Hso
      iexact HO
    iintro %_ ⟨Hf, Hi, Hx, Ho, Hr, Hsi, Hso, %W1, %hW1, HO⟩
    iapply (wp_wand_r frame _ Set.univ)
    isplitl [Hf Hi Hx Ho Hr Hsi Hso Hrest HO]
    · iapply (ih (n + 1) (by omega) W1)
      isplitr; · iexact Hlv
      isplitl [Hf]; · iexact Hf
      isplitl [Hi]; · iexact Hi
      isplitl [Hx]; · iexact Hx
      isplitl [Ho]; · iexact Ho
      isplitl [Hr Hsi Hso Hrest]
      · iapply (Entails.of_eq e2.symm)
        isplitl [Hr Hsi Hso]
        · isplitl [Hr]; · iexact Hr
          isplitl [Hsi]; · iexact Hsi
          iexact Hso
        iexact Hrest
      iexact HO
    iintro %_ ⟨Hf, Hi, Hx, Ho, Hr, %W2, %hW2, HO⟩
    isplitl [Hf]; · iexact Hf
    isplitl [Hi]; · iexact Hi
    isplitl [Hx]; · iexact Hx
    isplitl [Ho]; · iexact Ho
    isplitl [Hr]; · iexact Hr
    iexists W2; isplitr
    swap; · iexact HO
    ipureintro; intro p hp
    rcases hW2 p hp with h | h; · exact hW1 p h
    exact .inr h

end Cert.Proof.KernelIdeal

end
-- ==== Proof.KernelIdealTask.lean ====
/-
  The rule for one vector subcore's task, from what the launch deals it to what it hands back.
-/
module

public import proofs.«01_k».proof.Proof.KernelIdealTile

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx ownBufs ownSems0 ownCells ownRefs mem_ownCells)
open Idealize.ShloMosaic.Rounds
open Idealize.ShloMosaic.Tactic

variable {F : FTy → Type} [FloatOps F]

local notation "𝕄" => MT nD τ sig (HIx 1) (Elt F) ℕ UU ℕ

attribute [local irreducible] rowMax maxima rowsFrom

variable (d : Dev nD) (L : grid0.Coords)

omit [FloatOps F] in
/-- The subcore's part of the output array is its sixteen rows. -/
theorem outPart_cut (f : Buf (Elt F) (outLoc d)) :
    (outLoc d ↦[subPart (cL L) (sL L)]{fullShare} f : sProp 𝕄) = bigSep Finset.univ fun j : Fin 16 => outRowPts d L j f := by
  refine (pts_cut (ℓ := outLoc d) (subPart (cL L) (sL L)) slotOf f).trans (BI.bigSep_congr fun j _ => ?_)
  show (outLoc d ↦[rowPart (cL L) (sL L) j]{fullShare} f : sProp 𝕄) = outRowPts d L j f
  rw [← outRow_set L j]

omit [FloatOps F] in
/-- The sixteen rows and their semaphores, gathered by row. -/
theorem rowsHeld_gather (f G : Buf (Elt F) (outLoc d)) (n : Nat) (h : Buf (Elt F) (outLoc d)) (hn : ∀ j : Fin 16, (if j.val < n then G else f) = h) :
    (rowsHeld d L f G n : sProp 𝕄) = iprop((bigSep Finset.univ fun j : Fin 16 => outRowPts d L j h)
      ∗ (bigSep Finset.univ fun j : Fin 16 => semZero d L (inSem j)) ∗ bigSep Finset.univ fun j : Fin 16 => semZero d L (outSem j)) := by
  rw [rowsHeld, ← bigSep_sep', ← bigSep_sep']
  exact BI.bigSep_congr fun j _ => by rw [hn j]

/-- What a subcore's task works on: a share of the features and of the indices, and its own part of the output. -/
abbrev taskRes (q q' : PosShare TreeShare) (A : Buf (Elt F) (featLoc d)) (J : Buf (Elt F) (idxLoc d)) (f : Buf (Elt F) (outLoc d)) : sProp 𝕄 :=
  iprop((featLoc d ↦{q} A) ∗ (idxLoc d ↦{q'} J) ∗ (outLoc d ↦[subPart (cL L) (sL L)]{fullShare} f))

/-- The index block is fetched: the first scratch buffer ends with what the index array holds there. -/
theorem wp_fetch (O : CellTallies nD τ sig (HIx 1)) (W : Waits sig (HIx 1)) (hO : ∀ g, O g none = 0) (q' : PosShare TreeShare)
    (J : Buf (Elt F) (idxLoc d)) (I0 : Buf (Elt F) ((me d L).loc cc0_scratch0)) :
    iprop(levAts (K (F := F)).L (K (F := F)).lev ∗ (idxV.view.loc (me d L) ↦{q'} J) ∗ iHeld d L I0 ∗ semZero d L (semAt 0) ∗ owes (me d L) O W)
      ⊢ wp frame (wpE (defs₀ (F := F)) 𝒱₀ (me d L) none) Set.univ (fetchIdx L idxV sI (Memref.isWhole_whole _) (semAt 0))
          fun _ => iprop((idxV.view.loc (me d L) ↦{q'} J) ∗ iHeld d L ((idxBlock L idxV).view.read (Elt F) J) ∗ semZero d L (semAt 0)
            ∗ ∃ W', ⌜∀ p ∈ W', p ∈ W ∨ p.2 = none⌝ ∗ owes (me d L) O W') := by
  unfold fetchIdx
  iintro ⟨#Hlv, Hi, HI, Hs, HW⟩
  ihave Hmw := (show levAts (K (F := F)).L (K (F := F)).lev ⊢ Transfers.MayWaits (me d L) (default : HIx 1) O from
    (K (F := F)).mayWaits_none (thr := me d L) hO) $$ Hlv
  sl_exec
  sl_step
  have hX : View.write (Elt F) sI.view I0 (wp_fetch.sl.dma0 d L J) Finset.univ = (idxBlock L idxV).view.read (Elt F) J :=
    View.write_whole_univ _ _ _
  rw [hX]
  isplitl [Hi]; · iexact Hi
  isplitl [HI]; · iexact HI
  isplitl [Hs]; · iexact Hs
  iexists _; isplitr
  swap; · iexact HW
  ipureintro; intro p hp
  rcases Finset.mem_insert.mp hp with hp | hp; · exact .inr (hp ▸ rfl)
  exact .inl hp

set_option maxHeartbeats 2000000 in
/-- The task on subcore `L`: its part of the output ends at the maxima, when every index names a feature column. -/
theorem tile_body (hF : (K (F := F)).Facts) (q q' : PosShare TreeShare) (A : Buf (Elt F) (featLoc d)) (J : Buf (Elt F) (idxLoc d))
    (hJ : ∀ z, BitVec.toNat (w := 32) (J z) < 16384) (f : Buf (Elt F) (outLoc d))
    (O : CellTallies nD τ sig (HIx 1)) (W : Waits sig (HIx 1)) (hO : ∀ g, O g none = 0) :
    iprop(levAts (K (F := F)).L (K (F := F)).lev ∗ emp ∗ taskRes d L q q' A J f
        ∗ scopedBufs (me d L) ∗ scopedSems0 (me d L) ∗ owes (me d L) O W)
      ⊢ wp frame (wpE (defs₀ (F := F)) 𝒱₀ (me d L) none) Set.univ
          (cc0_gather_max L (Memref.whole main_v0_scv) (Memref.isWhole_whole _) (Memref.whole main_v1_scv) (Memref.isWhole_whole _)
            (Memref.whole main_v2_scv) (Memref.isWhole_whole _) (Memref.whole cc0_scratch0) (Memref.isWhole_whole _) (Memref.whole cc0_scratch1) (Memref.isWhole_whole _)
            (Memref.whole cc0_scratch2) (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32)
          fun _ => iprop(taskRes d L q q' A J (maxima A J)
            ∗ scopedBufs (me d L) ∗ scopedSems0 (me d L) ∗ ∃ W', ⌜∀ p ∈ W', p ∈ W ∨ p.2 = none⌝ ∗ owes (me d L) O W') := by
  rw [task_eq, (K (F := F)).scopedBufs_V hF d (cV L) (jV L), SparseCore.Cfg.scopedSems0_V (Val := Elt F) d (cV L) (jV L),
    ownSems0_cut, ownBufs_cut, taskRes, taskRes, outPart_cut, outPart_cut, wp_bind]
  iintro ⟨#Hlv, -, ⟨Hf, Hi, Hr⟩, ⟨⟨%I0, HI⟩, HX, HO, Hbufs⟩, ⟨Hs0, Hsi, Hso, Hsems⟩, HW⟩
  iapply (wp_wand_r frame _ Set.univ)
  isplitl [Hi HI Hs0 HW]
  · iapply (wp_fetch d L O W hO q' J I0)
    isplitr; · iexact Hlv
    isplitl [Hi]; · iexact Hi
    isplitl [HI]; · iexact HI
    isplitl [Hs0]; · iexact Hs0
    iexact HW
  iintro %_ ⟨Hi, HI, Hs0, %W1, %hW1, HW⟩
  have hI : InRange d L ((idxBlock L idxV).view.read (Elt F) J) := fun y => by
    rw [idxBlock_read (F := F) L 0 J]; exact hJ _
  iapply (wp_wand_r frame _ Set.univ)
  isplitl [Hf HI HX HO Hr Hsi Hso HW]
  · iapply (wp_rows d L O hO q A ((idxBlock L idxV).view.read (Elt F) J) hI f (maxima A J) (fun j y => maxima_row L j A J y) 16 0 rfl W1)
    isplitr; · iexact Hlv
    isplitl [Hf]; · iexact Hf
    isplitl [HI]; · iexact HI
    isplitl [HX]; · iexact HX
    isplitl [HO]; · iexact HO
    isplitl [Hr Hsi Hso]
    · iapply (Entails.of_eq (rowsHeld_gather d L f (maxima A J) 0 f (fun _ => rfl)).symm)
      isplitl [Hr]; · iexact Hr
      isplitl [Hsi]; · iexact Hsi
      iexact Hso
    iexact HW
  iintro %_ ⟨Hf, HI, HX, HO, Hr, %W2, %hW2, HW⟩
  ihave Hr := (Entails.of_eq (rowsHeld_gather d L f (maxima A J) 16 (maxima A J) (fun j => if_pos j.isLt))) $$ Hr
  icases Hr with ⟨Hr, Hsi, Hso⟩
  isplitl [Hf Hi Hr]
  · isplitl [Hf]; · iexact Hf
    isplitl [Hi]; · iexact Hi
    iexact Hr
  isplitl [HI HX HO Hbufs]
  · isplitl [HI]; · iexists _; iexact HI
    isplitl [HX]; · iexact HX
    isplitl [HO]; · iexact HO
    iexact Hbufs
  isplitl [Hs0 Hsi Hso Hsems]
  · isplitl [Hs0]; · iexact Hs0
    isplitl [Hsi]; · iexact Hsi
    isplitl [Hso]; · iexact Hso
    iexact Hsems
  iexists W2; isplitr
  swap; · iexact HW
  ipureintro; intro p hp
  rcases hW2 p hp with h | h; · exact hW1 p h
  exact .inr h

end Cert.Proof.KernelIdeal

end
-- ==== Proof.KernelIdealLaunch.lean ====
/-
  The launch's side of the kernel: what the handshakes carry to each SparseCore and to each subcore and back, each
  subcore's obligation, and how a SparseCore's resources fall into its subcores'.

  The feature and index arrays go out as read shares, one per SparseCore and of each of those one per subcore; the output
  array goes out in parts.
-/
module

public import proofs.«01_k».proof.Proof.KernelIdealTask
public import Idealize.ShloMosaic.Lib.SparseCore.Quiescent
public import Idealize.ShloMosaic.Lib.Pipeline.Kit

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx ownBufs ownSems0 ownCells ownRefs mem_ownCells)
open Idealize.ShloMosaic.Rounds
open Idealize.ShloMosaic.Tactic

variable {F : FTy → Type} [FloatOps F]

local notation "𝕄" => MT nD τ sig (HIx 1) (Elt F) ℕ UU ℕ

attribute [local irreducible] rowMax maxima rowsFrom

/-! ## The program as the launch theorem sees it -/

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem nCore_zero : (K (F := F)).nCore 0 = 2 := rfl
theorem nSub_zero : (K (F := F)).nSub 0 = 16 := rfl

/-- The facts about the launch's semaphores and the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the handshakes carry -/

/-- The read share of SparseCore `c`, and of its subcore `s`. -/
abbrev coreShare (c : Fin 2) : PosShare TreeShare := Transfers.shareTok fullShare 2 c
abbrev subShare (c : Fin 2) (s : Fin 16) : PosShare TreeShare := Transfers.shareTok (coreShare c) 16 s

variable (A : (d : Dev nD) → Buf (Elt F) (featLoc d)) (J : (d : Dev nD) → Buf (Elt F) (idxLoc d)) (f₀ : (d : Dev nD) → Buf (Elt F) (outLoc d))

/-- What SparseCore `c` works on, with its part of the output at `f`. -/
abbrev coreRes (d : Dev nD) (c : Fin 2) (f : Buf (Elt F) (outLoc d)) : sProp 𝕄 :=
  iprop((featLoc d ↦{coreShare c} A d) ∗ (idxLoc d ↦{coreShare c} J d) ∗ (outLoc d ↦[corePart c]{fullShare} f))
/-- What its subcore `s` works on, with its part of the output at `f`. -/
abbrev subRes (d : Dev nD) (c : Fin 2) (s : Fin 16) (f : Buf (Elt F) (outLoc d)) : sProp 𝕄 :=
  iprop((featLoc d ↦{subShare c s} A d) ∗ (idxLoc d ↦{subShare c s} J d) ∗ (outLoc d ↦[subPart c s]{fullShare} f))

/-- The call hands the features, the indices and the output out, and gets the output back at the maxima. -/
def P : (K (F := F)).Pay (nD := nD) (Val := Elt F) (Name := ℕ) (U := UU) where
  st := fun q d c => match q with | 0 => coreRes A J d (Fin.cast nCore_zero c) (f₀ d)
  dn := fun q d c => match q with | 0 => coreRes A J d (Fin.cast nCore_zero c) (maxima (A d) (J d))
  go := fun q d c i => match q with | 0 => subRes A J d (Fin.cast nCore_zero c) (Fin.cast nSub_zero i) (f₀ d)
  td := fun q d c i => match q with | 0 => subRes A J d (Fin.cast nCore_zero c) (Fin.cast nSub_zero i) (maxima (A d) (J d))
  x := fun _ _ => iprop(emp)

instance P_storable : (P (F := F) A J f₀).IsStorable where
  st q d c := match q with
    | 0 => (inferInstance : BI.Storable (upEmb : UEmb _ 𝕄) (coreRes A J d (Fin.cast nCore_zero c) (f₀ d)))
  dn q d c := match q with
    | 0 => (inferInstance : BI.Storable (upEmb : UEmb _ 𝕄) (coreRes A J d (Fin.cast nCore_zero c) (maxima (A d) (J d))))
  go q d c i := match q with
    | 0 => (inferInstance : BI.Storable (upEmb : UEmb _ 𝕄) (subRes A J d (Fin.cast nCore_zero c) (Fin.cast nSub_zero i) (f₀ d)))
  td q d c i := match q with
    | 0 => (inferInstance : BI.Storable (upEmb : UEmb _ 𝕄) (subRes A J d (Fin.cast nCore_zero c) (Fin.cast nSub_zero i) (maxima (A d) (J d))))

/-! ## A subcore's obligation -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_max (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32) ⟨⟩ c s := rfl

omit [FloatOps F] in
/-- Waits on the kernel's own semaphores are among those the launch allows. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- Every subcore's task meets its obligation when every index names a feature column. -/
theorem tileObl (hJ : ∀ d z, BitVec.toNat (w := 32) (J d z) < 16384) : (K (F := F)).TileObl (D (F := F)) 𝒱 (P A J f₀) v₀ 0 := by
  intro d c i O W hO _ _
  simp only [show (P A J f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (subShare (Fin.cast nCore_zero c) (Fin.cast nSub_zero i))
    (subShare (Fin.cast nCore_zero c) (Fin.cast nSub_zero i)) (A d) (J d) (hJ d) (f₀ d) O W hO).trans (wp_mono frame _ _ fun _ => obl_post)

/-! ## A SparseCore's resources, dealt to its subcores and gathered again -/

theorem bigSep_subs (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)

theorem vecSplit : (K (F := F)).VecSplit' (P A J f₀) 0 := by
  intro d c
  show coreRes A J d (Fin.cast nCore_zero c) (f₀ d) ⊢ |={Set.univ}=> iprop(
      (bigSep Finset.univ fun i : Fin ((K (F := F)).nSub 0) => subRes A J d (Fin.cast nCore_zero c) (Fin.cast nSub_zero i) (f₀ d))
      ∗ ((bigSep Finset.univ fun i : Fin ((K (F := F)).nSub 0) => subRes A J d (Fin.cast nCore_zero c) (Fin.cast nSub_zero i) (maxima (A d) (J d)))
          -∗ coreRes A J d (Fin.cast nCore_zero c) (maxima (A d) (J d))))
  rw [bigSep_subs (F := F) (fun i => subRes A J d (Fin.cast nCore_zero c) i (f₀ d)),
    bigSep_subs (F := F) (fun i => subRes A J d (Fin.cast nCore_zero c) i (maxima (A d) (J d))), bigSep_sep', bigSep_sep', bigSep_sep', bigSep_sep']
  generalize (Fin.cast nCore_zero c : Fin 2) = c'
  have cut : ∀ f : Buf (Elt F) (outLoc d), (outLoc d ↦[corePart c']{fullShare} f : sProp 𝕄)
      = bigSep Finset.univ fun s : Fin 16 => outLoc d ↦[subPart c' s]{fullShare} f := pts_cut (ℓ := outLoc d) (corePart c') subOf
  iintro ⟨Hf, Hi, Ho⟩
  ihave Hf := (Transfers.pointsTo_toks_split (coreShare c') 16) $$ Hf
  ihave Hi := (Transfers.pointsTo_toks_split (coreShare c') 16) $$ Hi
  ihave Ho := (Entails.of_eq (cut _)) $$ Ho
  icases Hf with ⟨Hfk, Hf⟩
  icases Hi with ⟨Hik, Hi⟩
  imodintro
  isplitl [Hf Hi Ho]
  · isplitl [Hf]; · iexact Hf
    isplitl [Hi]; · iexact Hi
    iexact Ho
  iintro ⟨Hf, Hi, Ho⟩
  isplitl [Hf Hfk]
  · iapply (Transfers.pointsTo_toks_join (coreShare c') 16)
    isplitl [Hfk]; · iexact Hfk
    iexact Hf
  isplitl [Hi Hik]
  · iapply (Transfers.pointsTo_toks_join (coreShare c') 16)
    isplitl [Hik]; · iexact Hik
    iexact Hi
  iapply (Entails.of_eq (cut _).symm)
  iexact Ho

/-! ## The launch's own ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A J f₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) A J f₀).x q thr) = bigSep Finset.univ fun _ => iprop(emp) from
    BI.bigSep_congr fun _ _ => bigSep_univ_of_subsingleton (0 : Fin 1), bigSep_nothing]
  iempintro

end Cert.Proof.KernelIdeal

end
-- ==== Proof.KernelIdealRun.lean ====
/-
  The program's run: @main reshapes the features, transposes the indices, runs the SparseCore call and reshapes its
  output. Every execution ends with the arguments unchanged, the result at the maxima and every semaphore at zero.
-/
module

public import proofs.«01_k».proof.Proof.KernelIdealLaunch
public import Idealize.ShloMosaic.Lib.StableHlo.Run

@[expose] public section

set_option maxRecDepth 16384

noncomputable section

namespace Cert.Proof.KernelIdeal

open Cert.KernelIdeal Cert.KernelIdeal.Gen Cert.Proof.Maxima
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx ownBufs ownSems0 ownCells ownRefs mem_ownCells)
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

attribute [local irreducible] rowMax maxima rowsFrom

variable (m : (ℓ : Loc nD τ sig) → Buf (Elt F) ℓ) (ρ : Dev nD → PrngReg)

/-! ## @main's arrays and values -/

/-- The launch memory's argument `%0` (features) and `%3` (indices), and @main's result array. -/
abbrev argLoc (d : Dev nD) : Loc nD τ sig := (SparseCore.T d).loc main_arg0
abbrev arg1Loc (d : Dev nD) : Loc nD τ sig := (SparseCore.T d).loc main_arg1
abbrev arg2Loc (d : Dev nD) : Loc nD τ sig := (SparseCore.T d).loc main_arg2
abbrev arg3Loc (d : Dev nD) : Loc nD τ sig := (SparseCore.T d).loc main_arg3
abbrev resLoc (d : Dev nD) : Loc nD τ sig := (SparseCore.T d).loc main_v3

/-- The call's operands, and @main's result, from the arguments. -/
def featVal (d : Dev nD) : Buf (Elt F) (featLoc d) :=
  shapeCast S512x16384 (m (argLoc d) : S8x64x16384.Idx → F .f32) shapeCasts_S8x64x16384_S512x16384
def idxVal (d : Dev nD) : Buf (Elt F) (idxLoc d) :=
  transpose S8x16x4096 [0, 2, 1] (m (arg3Loc d) : S8x4096x16.Idx → BitVec 32) transposes_S8x4096x16_S8x16x4096_0_2_1
def resVal (d : Dev nD) : Buf (Elt F) (resLoc d) :=
  shapeCast S8x64x4096 (maxima (featVal m d) (idxVal m d) : S512x4096.Idx → F .f32) shapeCasts_S512x4096_S8x64x4096

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)
abbrev b3' : DevRef τ sig := Proc.devRef .tc (main_v3 : Ref sig .tc)

abbrev opFeat : HloOp τ sig (Elt F) := StableHlo.reshape main_arg0 main_v0 (rfl : (.f32 : EltTy) = .f32) shapeCasts_S8x64x16384_S512x16384
abbrev opIdx : HloOp τ sig (Elt F) :=
  StableHlo.unary main_arg3 main_v1 ((transpose S8x16x4096 [0, 2, 1] · transposes_S8x4096x16_S8x16x4096_0_2_1) : (⟨S8x4096x16, .i32⟩ : BufTy).Contents (Elt F) → (⟨S8x16x4096, .i32⟩ : BufTy).Contents (Elt F))
abbrev opRes : HloOp τ sig (Elt F) := StableHlo.reshape main_v2 main_v3 (rfl : (.f32 : EltTy) = .f32) shapeCasts_S512x4096_S8x64x4096

/-- @main's eight arrays. -/
abbrev S8 : Finset (DevRef τ sig) := {a0', a1', a2', a3', b0', b1', b2', b3'}

omit [FloatOps F] in
theorem held_S8 (d : Dev nD) (W : Valuation τ sig (Elt F)) :
    (held (T d) S8 W : sProp 𝕄)
      = iprop((argLoc d ↦{fullShare} W a0') ∗ (arg1Loc d ↦{fullShare} W a1') ∗ (arg2Loc d ↦{fullShare} W a2') ∗ (arg3Loc d ↦{fullShare} W a3')
          ∗ (featLoc d ↦{fullShare} W b0') ∗ (idxLoc d ↦{fullShare} W b1') ∗ (outLoc d ↦{fullShare} W b2') ∗ resLoc d ↦{fullShare} W b3') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((argLoc d ↦{fullShare} W main_arg0) ∗ (arg1Loc d ↦{fullShare} W main_arg1) ∗ (arg2Loc d ↦{fullShare} W main_arg2) ∗ (arg3Loc d ↦{fullShare} W main_arg3)
          ∗ (featLoc d ↦{fullShare} W main_v0) ∗ (idxLoc d ↦{fullShare} W main_v1) ∗ (outLoc d ↦{fullShare} W main_v2) ∗ resLoc d ↦{fullShare} W main_v3) := by
  unfold unscopedBufs
  rw [show (Finset.univ.filter fun b : Ref sig .tc => ¬ b.isScoped) = {main_arg0, main_arg1, main_arg2, main_arg3, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold at the launch, before the call, and after it. -/
def V0 (d : Dev nD) : Valuation τ sig (Elt F) := fun b => m (d, b)
def V2 (d : Dev nD) : Valuation τ sig (Elt F) := (opIdx (F := F)).result ((opFeat (F := F)).result (V0 m d))
def V3 (d : Dev nD) : Valuation τ sig (Elt F) := Function.update (V2 m d) b2' (maxima (featVal m d) (idxVal m d))

omit [FloatOps F] in
theorem unscoped_held (d : Dev nD) : (unscopedBufs d (fun b => m ((SparseCore.T d).loc b)) : sProp 𝕄) = held (T d) S8 (V0 m d) := by
  rw [unscopedBufs_eq, held_S8]; rfl

omit [FloatOps F] in
/-- An array that neither of the first two operations writes is as launched. -/
theorem V2_of_ne (d : Dev nD) (b : DevRef τ sig) (h0 : b ≠ b0') (h1 : b ≠ b1') : V2 m d b = m (d, b) := by
  unfold V2
  rw [(opIdx (F := F)).result_of_not_mem _ (show b ∉ ({b1'} : Finset (DevRef τ sig)) from fun h => h1 (Finset.mem_singleton.mp h)),
    (opFeat (F := F)).result_of_not_mem _ (show b ∉ ({b0'} : Finset (DevRef τ sig)) from fun h => h0 (Finset.mem_singleton.mp h))]
  rfl
omit [FloatOps F] in
theorem V2_b0 (d : Dev nD) : V2 m d b0' = featVal m d := by
  unfold V2
  rw [(opIdx (F := F)).result_of_not_mem _ (show b0' ∉ ({b1'} : Finset (DevRef τ sig)) by decide)]
  exact StableHlo.reshape_result _ _ _ _ _ _ _
omit [FloatOps F] in
theorem V2_b1 (d : Dev nD) : V2 m d b1' = idxVal m d := by
  unfold V2
  refine (StableHlo.unary_result _ _ _ _ _ _).trans ?_
  show transpose S8x16x4096 [0, 2, 1] ((opFeat (F := F)).result (V0 m d) a3' : S8x4096x16.Idx → BitVec 32) _ = _
  rw [(opFeat (F := F)).result_of_not_mem _ (show a3' ∉ ({b0'} : Finset (DevRef τ sig)) by decide)]
  rfl

/-- The arrays before the call. -/
theorem held_V2 (d : Dev nD) :
    (held (T d) S8 ((opIdx (F := F)).result ((opFeat (F := F)).result (V0 m d))) : sProp 𝕄)
      = iprop((argLoc d ↦{fullShare} m (argLoc d)) ∗ (arg1Loc d ↦{fullShare} m (arg1Loc d)) ∗ (arg2Loc d ↦{fullShare} m (arg2Loc d)) ∗ (arg3Loc d ↦{fullShare} m (arg3Loc d))
          ∗ (featLoc d ↦{fullShare} featVal m d) ∗ (idxLoc d ↦{fullShare} idxVal m d) ∗ (outLoc d ↦{fullShare} m (outLoc d)) ∗ resLoc d ↦{fullShare} m (resLoc d)) := by
  show held (SparseCore.T d) S8 (V2 m d) = _
  rw [held_S8, V2_b0, V2_b1, V2_of_ne m d a0' (by decide) (by decide), V2_of_ne m d a1' (by decide) (by decide), V2_of_ne m d a2' (by decide) (by decide),
    V2_of_ne m d a3' (by decide) (by decide), V2_of_ne m d b2' (by decide) (by decide), V2_of_ne m d b3' (by decide) (by decide)]

theorem V3_of_ne (d : Dev nD) (b : DevRef τ sig) (h : b ≠ b2') : V3 m d b = V2 m d b := Function.update_of_ne h _ _
theorem V3_b2 (d : Dev nD) : V3 m d b2' = maxima (featVal m d) (idxVal m d) := Function.update_self _ _ _

/-- The arrays after the call, the last operation still to come. -/
theorem held_V3 (d : Dev nD) :
    (held (T d) S8 (V3 m d) : sProp 𝕄)
      = iprop((argLoc d ↦{fullShare} m (argLoc d)) ∗ (arg1Loc d ↦{fullShare} m (arg1Loc d)) ∗ (arg2Loc d ↦{fullShare} m (arg2Loc d)) ∗ (arg3Loc d ↦{fullShare} m (arg3Loc d))
          ∗ (featLoc d ↦{fullShare} featVal m d) ∗ (idxLoc d ↦{fullShare} idxVal m d) ∗ (outLoc d ↦{fullShare} maxima (featVal m d) (idxVal m d))
          ∗ resLoc d ↦{fullShare} m (resLoc d)) := by
  rw [held_S8, V3_b2, V3_of_ne m d a0' (by decide), V3_of_ne m d a1' (by decide), V3_of_ne m d a2' (by decide), V3_of_ne m d a3' (by decide),
    V3_of_ne m d b0' (by decide), V3_of_ne m d b1' (by decide), V3_of_ne m d b3' (by decide),
    V2_b0, V2_b1, V2_of_ne m d a0' (by decide) (by decide), V2_of_ne m d a1' (by decide) (by decide), V2_of_ne m d a2' (by decide) (by decide),
    V2_of_ne m d a3' (by decide) (by decide), V2_of_ne m d b3' (by decide) (by decide)]

/-- An argument is as launched at the end, and the result is the reshaped maxima. -/
theorem end_of_arg (d : Dev nD) (b : DevRef τ sig) (h0 : b ≠ b0') (h1 : b ≠ b1') (h2 : b ≠ b2') (h3 : b ≠ b3') :
    (opRes (F := F)).result (V3 m d) b = m (d, b) := by
  rw [(opRes (F := F)).result_of_not_mem _ (show b ∉ ({b3'} : Finset (DevRef τ sig)) from fun h => h3 (Finset.mem_singleton.mp h)), V3_of_ne m d b h2, V2_of_ne m d b h0 h1]
theorem end_res (d : Dev nD) : (opRes (F := F)).result (V3 m d) b3' = resVal m d := by
  refine (StableHlo.reshape_result _ _ _ _ _ _ _).trans ?_
  show shapeCast S8x64x4096 (V3 m d b2' : S512x4096.Idx → F .f32) _ = _
  rw [V3_b2]; rfl

theorem hFeat : (opFeat (F := F)).bufs ⊆ S8 := show ({a0', b0'} : Finset (DevRef τ sig)) ⊆ S8 by decide
theorem hIdx : (opIdx (F := F)).bufs ⊆ S8 := show ({a3', b1'} : Finset (DevRef τ sig)) ⊆ S8 by decide
theorem hRes : (opRes (F := F)).bufs ⊆ S8 := show ({b2', b3'} : Finset (DevRef τ sig)) ⊆ S8 by decide

/-! ## The call's resources -/

/-- The payloads of this launch. -/
abbrev PM : (K (F := F)).Pay (nD := nD) (Val := Elt F) (Name := ℕ) (U := UU) := P (featVal m) (idxVal m) (fun d => m (outLoc d))

theorem bigSep_cores (Φ : Fin 2 → sProp 𝕄) :
    (bigSep Finset.univ fun i : Fin ((K (F := F)).nCore 0) => Φ (Fin.cast nCore_zero i)) = bigSep Finset.univ Φ :=
  BI.bigSep_congr fun _ _ => congrArg Φ (Fin.ext rfl)

/-- The two SparseCores' resources are their shares of the features and of the indices, and the whole output. -/
theorem cores_eq (d : Dev nD) (f : Buf (Elt F) (outLoc d)) :
    (bigSep Finset.univ fun c : Fin ((K (F := F)).nCore 0) => coreRes (featVal m) (idxVal m) d (Fin.cast nCore_zero c) f)
      = iprop((bigSep Finset.univ fun c : Fin 2 => featLoc d ↦{coreShare c} featVal m d) ∗ (bigSep Finset.univ fun c : Fin 2 => idxLoc d ↦{coreShare c} idxVal m d)
          ∗ outLoc d ↦{fullShare} f) := by
  refine (bigSep_cores (F := F) (fun c => coreRes (featVal m) (idxVal m) d c f)).trans ?_
  rw [bigSep_sep', bigSep_sep', show (outLoc d ↦{fullShare} f : sProp 𝕄) = bigSep Finset.univ fun c : Fin 2 => outLoc d ↦[corePart c]{fullShare} f from
    pts_cut (ℓ := outLoc d) Finset.univ coreOf f]

/-- What @main leaves: the arguments as launched, and the result. -/
abbrev FIN (d : Dev nD) : sProp 𝕄 :=
  iprop((argLoc d ↦{fullShare} m (argLoc d)) ∗ (arg1Loc d ↦{fullShare} m (arg1Loc d)) ∗ (arg2Loc d ↦{fullShare} m (arg2Loc d))
    ∗ (arg3Loc d ↦{fullShare} m (arg3Loc d)) ∗ resLoc d ↦{fullShare} resVal m d)

/-- @main on device `d`: two operations, the call, one more operation. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFeat) (S := S8) hFeat (V := V0 m d)) $$ [Hb Hheld]
  · isplitl [Hb] <;> iassumption
  iintro ⟨Hb, Hheld⟩
  rw [wp_ret]; imodintro
  iapply (wp_hlo_within 𝒱 (SparseCore.T d) none Set.univ (op := opIdx) (S := S8) hIdx (V := (opFeat (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨H0, H1, H2, H3, Hf, Hi, Ho, Hr⟩
  ihave Hf := (Transfers.pointsTo_toks_split fullShare 2) $$ Hf
  ihave Hi := (Transfers.pointsTo_toks_split fullShare 2) $$ Hi
  icases Hf with ⟨Hfk, Hf⟩
  icases Hi with ⟨Hik, Hi⟩
  iapply ((K (F := F)).wp_run (D (F := F)) 𝒱 (EH := EH) (P := PM m) κ d 0) $$ [Hst Hf Hi Ho Hfk Hik Hb H0 H1 H2 H3 Hr Hts]
  isplitr; · iexact Hctx
  isplitl [Hst]; · iexact Hst
  isplitl [Hf Hi Ho]
  · iapply (Entails.of_eq (cores_eq m d (m (outLoc d))).symm)
    isplitl [Hf]; · iexact Hf
    isplitl [Hi]; · iexact Hi
    iexact Ho
  iintro ⟨Hst, Hdn⟩
  ihave Hdn := (Entails.of_eq (show (bigSep Finset.univ fun c : Fin ((K (F := F)).nCore 0) => (PM m).dn 0 d c) = _ from cores_eq m d (maxima (featVal m d) (idxVal m d)))) $$ Hdn
  icases Hdn with ⟨Hf, Hi, Ho⟩
  iapply (wp_hlo_within 𝒱 (SparseCore.T d) none Set.univ (op := opRes) (S := S8) hRes (V := V3 m d)) $$ [Hb H0 H1 H2 H3 Hf Hfk Hi Hik Ho Hr]
  · isplitl [Hb]; · iexact Hb
    iapply (Entails.of_eq (held_V3 m d).symm)
    isplitl [H0]; · iexact H0
    isplitl [H1]; · iexact H1
    isplitl [H2]; · iexact H2
    isplitl [H3]; · iexact H3
    isplitl [Hf Hfk]
    · iapply (Transfers.pointsTo_toks_join fullShare 2)
      isplitl [Hfk]; · iexact Hfk
      iexact Hf
    isplitl [Hi Hik]
    · iapply (Transfers.pointsTo_toks_join fullShare 2)
      isplitl [Hik]; · iexact Hik
      iexact Hi
    isplitl [Ho]; · iexact Ho
    iexact Hr
  iintro ⟨Hb, Hheld⟩
  ihave Hh := (Entails.of_eq (held_S8 (F := F) d _)) $$ Hheld
  rw [end_res, end_of_arg m d a0' (by decide) (by decide) (by decide) (by decide), end_of_arg m d a1' (by decide) (by decide) (by decide) (by decide),
    end_of_arg m d a2' (by decide) (by decide) (by decide) (by decide), end_of_arg m d a3' (by decide) (by decide) (by decide) (by decide)]
  icases Hh with ⟨H0, H1, H2, H3, -, -, -, Hr⟩
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    iexact Hr
  isplitl [Hb] <;> iassumption

/-- What the claims read of device `d`'s final memory. -/
def fq (d : Dev nD) (s' : Phys nD τ sig (Elt F)) : Prop :=
  s'.mem.mem (resLoc d) = resVal m d ∧ s'.mem.mem (argLoc d) = m (argLoc d) ∧ s'.mem.mem (arg1Loc d) = m (arg1Loc d)
    ∧ s'.mem.mem (arg2Loc d) = m (arg2Loc d) ∧ s'.mem.mem (arg3Loc d) = m (arg3Loc d)

omit [FloatOps F] in
/-- An array held whole is what the memory has. -/
theorem held_agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, Hr⟩, HSI⟩
  ihave H := (held_agree (F := F) (argLoc d) _ s') $$ [H0 HSI]
  · isplitl [H0] <;> iassumption
  icases H with ⟨%h0, HSI⟩
  ihave H := (held_agree (F := F) (arg1Loc d) _ s') $$ [H1 HSI]
  · isplitl [H1] <;> iassumption
  icases H with ⟨%h1, HSI⟩
  ihave H := (held_agree (F := F) (arg2Loc d) _ s') $$ [H2 HSI]
  · isplitl [H2] <;> iassumption
  icases H with ⟨%h2, HSI⟩
  ihave H := (held_agree (F := F) (arg3Loc d) _ s') $$ [H3 HSI]
  · isplitl [H3] <;> iassumption
  icases H with ⟨%h3, HSI⟩
  ihave H := (held_agree (F := F) (resLoc d) _ s') $$ [Hr HSI]
  · isplitl [Hr] <;> iassumption
  icases H with ⟨%hr, -⟩
  ipureintro; exact ⟨hr, h0, h1, h2, h3⟩

/-! ## The run -/

/-- The final states: on each device the result and the arguments as said, every semaphore at zero. -/
def QC : PUnit × MemSt nD τ sig (Elt F) → Prop := fun r =>
  (∀ c : Dev nD, r.2.mem (resLoc c) = resVal m c ∧ r.2.mem (argLoc c) = m (argLoc c) ∧ r.2.mem (arg1Loc c) = m (arg1Loc c)
    ∧ r.2.mem (arg2Loc c) = m (arg2Loc c) ∧ r.2.mem (arg3Loc c) = m (arg3Loc c)) ∧ r.2.sem = fun _ => 0

omit [FloatOps F] in
/-- The call's index operand is in range when the argument is: it holds the same words, in another order. -/
theorem idxVal_lt (h : ∀ d z, BitVec.toNat (w := 32) ((m (arg3Loc d) : S8x4096x16.Idx → BitVec 32) z) < 16384) :
    ∀ d z, BitVec.toNat (w := 32) (idxVal m d z) < 16384 := fun d z => h d _

/-- With every index in range, every execution ends so. -/
theorem run_main [∀ e, Nonempty (Elt F e)] (h : ∀ d z, BitVec.toNat (w := 32) ((m (arg3Loc d) : S8x4096x16.Idx → BitVec 32) z) < 16384) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ (idxVal_lt m h))
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Proof.KernelIdeal

end
-- ==== Proof.RefRun.lean ====
/-
  The reference's run. The reference is a straight line of StableHLO operations: it wraps negative indices, marks those
  inside a feature row, gathers, selects and reduces the last axis by maximum. Every execution ends with the result at
  `refVal` of the features and the indices, and with the arguments unchanged.
-/
module

public import proofs.«01_k».proof.Defs
public import proofs.«01_k».proof.Proof.Gen.ReferenceIdeal
public import Idealize.ShloMosaic.Lib.StableHlo.Run

@[expose] public section

set_option maxRecDepth 16384

noncomputable section

namespace Cert.Proof.Ref

open Cert.ReferenceIdeal Cert.ReferenceIdeal.Facts₀ Cert.ReferenceIdeal.Facts
open Idealize.ShloMosaic Idealize.ShloMosaic.StableHlo Idealize.SL.Sem

variable {F : FTy → Type} [FloatOps F]

/-- The reference's operations, in order, the outlined function's in the place of its call. -/
abbrev ops : List (HloOp τ sig (Elt F)) :=
  [ StableHlo.reshape main_arg3 main_v0 (rfl : (.i32 : EltTy) = .i32) shapeCasts_S8x4096x16_S8x1x65536,
    StableHlo.unary main_v0 main_v1 (broadcastInDim S8x64x65536 ![0, 1, 2] bcast_S8x1x65536_S8x64x65536_0_1_2 : (⟨S8x1x65536, .i32⟩ : BufTy).Contents (Elt F) → (⟨S8x64x65536, .i32⟩ : BufTy).Contents (Elt F)),
    StableHlo.TRef.nullary main_call0.c (constantI S_ 32 0#32),
    StableHlo.TRef.unary main_call0.c main_call0.v0 (broadcastInDim S8x64x65536 ![] bcast_S_S8x64x65536),
    StableHlo.TRef.binary (.of main_v1) main_call0.v0 main_call0.v1 (cmpi .slt),
    StableHlo.TRef.nullary main_call0.c_0 (constantI S_ 32 16384#32),
    StableHlo.TRef.unary main_call0.c_0 main_call0.v2 (broadcastInDim S8x64x65536 ![] bcast_S_S8x64x65536),
    StableHlo.TRef.binary (.of main_v1) main_call0.v2 main_call0.v3 addi,
    StableHlo.TRef.ternary main_call0.v1 main_call0.v3 (.of main_v1) main_call0.v4 select,
    StableHlo.TRef.reshape main_call0.v4 main_call0.v5 (rfl : (.i32 : EltTy) = .i32) shapeCasts_S8x64x65536_S8x64x65536x1,
    StableHlo.TRef.nullary main_call0.c_1 (constantI S1 32 16383#32),
    StableHlo.TRef.nullary main_call0.c_2 (constantI S_ 32 0#32),
    StableHlo.TRef.unary main_call0.c_2 main_call0.v6 (broadcastInDim S8x64x65536x1 ![] bcast_S_S8x64x65536x1),
    StableHlo.TRef.binary main_call0.v5 main_call0.v6 main_call0.v7 (cmpi .sge),
    StableHlo.TRef.unary main_call0.c_1 main_call0.v8 (broadcastInDim S1x1x1x1 ![3] bcast_S1_S1x1x1x1_3),
    StableHlo.TRef.unary main_call0.v8 main_call0.v9 (broadcastInDim S8x64x65536x1 ![0, 1, 2, 3] bcast_S1x1x1x1_S8x64x65536x1_0_1_2_3),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S8x64x65536x1_S8x64x65536_d3 h_S_),
    StableHlo.TRef.binary (.of main_arg0) main_call0.v5 main_call0.v13 (fun x i => Host.gather gather_S8x64x16384_S8x64x65536x1_S8x64x65536_n_2_01_01_2_3_111 x i),
    StableHlo.TRef.nullary main_call0.cst (constant S_ .f32 0x7FC00000#32),
    StableHlo.TRef.unary main_call0.cst main_call0.v14 (broadcastInDim S8x64x65536 ![] bcast_S_S8x64x65536),
    StableHlo.TRef.ternary main_call0.v12 main_call0.v13 main_call0.v14 main_call0.v15 select,
    StableHlo.reshape main_v2 main_v3 (rfl : (.f32 : EltTy) = .f32) shapeCasts_S8x64x65536_S8x64x4096x16,
    StableHlo.nullary main_cst (constant S_ .f32 0xFF800000#32),
    StableHlo.binary main_v3 main_cst main_v4 ((fun x v => Host.reduce FloatOps.maximumf x v reducesTo_S8x64x4096x16_S8x64x4096_d3 h_S_) : (⟨S8x64x4096x16, .f32⟩ : BufTy).Contents (Elt F) → (⟨S_, .f32⟩ : BufTy).Contents (Elt F) → (⟨S8x64x4096, .f32⟩ : BufTy).Contents (Elt F)) ]

theorem main_eq (d : Dev nD) : main (F := F) d = seq ops := by
  simp only [main, fn_take_along_axis.body, bind_assoc, pure_bind, seq]

/-- The sixteen indices of every output element, in one row, the row repeated for the 64 features; a negative one has
    16384 added. -/
def wrapped (J : IVec S8x4096x16 32) : IVec S8x64x65536x1 32 :=
  let I : IVec S8x64x65536 32 := broadcastInDim S8x64x65536 ![0, 1, 2] bcast_S8x1x65536_S8x64x65536_0_1_2 (shapeCast S8x1x65536 J shapeCasts_S8x4096x16_S8x1x65536)
  shapeCast S8x64x65536x1
    (select (cmpi .slt I (broadcastInDim S8x64x65536 ![] bcast_S_S8x64x65536 (constantI S_ 32 0#32)))
      (addi I (broadcastInDim S8x64x65536 ![] bcast_S_S8x64x65536 (constantI S_ 32 16384#32))) I)
    shapeCasts_S8x64x65536_S8x64x65536x1

/-- Which of those indices lie in the row. -/
def inRow (W : IVec S8x64x65536x1 32) : IVec S8x64x65536 1 :=
  Host.reduce IntOp.andi
    (andi (cmpi .sge W (broadcastInDim S8x64x65536x1 ![] bcast_S_S8x64x65536x1 (constantI S_ 32 0#32)))
      (cmpi .sle W (broadcastInDim S8x64x65536x1 ![0, 1, 2, 3] bcast_S1x1x1x1_S8x64x65536x1_0_1_2_3
        (broadcastInDim S1x1x1x1 ![3] bcast_S1_S1x1x1x1_3 (constantI S1 32 16383#32)))))
    (constantI S_ 1 1#1) reducesTo_S8x64x65536x1_S8x64x65536_d3 h_S_

/-- The features at those indices, a NaN pattern's value where the index is outside the row. -/
def taken (A : FVec F S8x64x16384 .f32) (W : IVec S8x64x65536x1 32) : FVec F S8x64x65536 .f32 :=
  select (inRow W) (Host.gather gather_S8x64x16384_S8x64x65536x1_S8x64x65536_n_2_01_01_2_3_111 A W)
    (broadcastInDim S8x64x65536 ![] bcast_S_S8x64x65536 (constant S_ .f32 0x7FC00000#32))

/-- The reference's result: the maximum over each output element's sixteen. -/
def refVal (A : FVec F S8x64x16384 .f32) (J : IVec S8x4096x16 32) : FVec F S8x64x4096 .f32 :=
  Host.reduce FloatOps.maximumf (shapeCast S8x64x4096x16 (taken A (wrapped J)) shapeCasts_S8x64x65536_S8x64x4096x16)
    (constant S_ .f32 0xFF800000#32) reducesTo_S8x64x4096x16_S8x64x4096_d3 h_S_

/-- No operation writes an argument. -/
theorem args_kept (V : Valuation τ sig (Elt F)) :
    after ops V (Proc.devRef .tc (main_arg0 : Ref sig .tc)) = V (Proc.devRef .tc (main_arg0 : Ref sig .tc))
      ∧ after ops V (Proc.devRef .tc (main_arg1 : Ref sig .tc)) = V (Proc.devRef .tc (main_arg1 : Ref sig .tc))
      ∧ after ops V (Proc.devRef .tc (main_arg2 : Ref sig .tc)) = V (Proc.devRef .tc (main_arg2 : Ref sig .tc))
      ∧ after ops V (Proc.devRef .tc (main_arg3 : Ref sig .tc)) = V (Proc.devRef .tc (main_arg3 : Ref sig .tc)) := by
  refine ⟨?_, ?_, ?_, ?_⟩ <;> after_results_simp

attribute [local irreducible] Host.reduce Host.gather shapeCast broadcastInDim select cmpi addi andi constant constantI

/-- The last operation's array holds the reference's result over the arguments. -/
theorem res_eq (V : Valuation τ sig (Elt F)) :
    after ops V (Proc.devRef .tc (main_v4 : Ref sig .tc))
      = refVal (V (Proc.devRef .tc (main_arg0 : Ref sig .tc)) : FVec F S8x64x16384 .f32) (V (Proc.devRef .tc (main_arg3 : Ref sig .tc)) : IVec S8x4096x16 32) := by
  after_results_simp
  simp only [TRef.ofBuf_toBuf]
  unfold refVal taken inRow wrapped
  simp only [TRef.toBuf, TRef.ofBuf, cast_eq]
  rfl

/-- Every execution of the reference ends with its result so and its arguments as launched, every semaphore at zero. -/
theorem run_reference (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v4)
          = refVal (m ((c.tc : Thread nD τ).loc main_arg0) : FVec F S8x64x16384 .f32) (m ((c.tc : Thread nD τ).loc main_arg3) : IVec S8x4096x16 32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run (defs (F := F)) _ _).mono
    (fun r h c =>
      ⟨(h c main_v4).trans (res_eq _), (h c main_arg0).trans (args_kept _).1, (h c main_arg1).trans (args_kept _).2.1,
        (h c main_arg2).trans (args_kept _).2.2.1, (h c main_arg3).trans (args_kept _).2.2.2⟩)
    (run_seq (by decide) (by decide) (defs (F := F)) main (fun _ => ops) main_eq (fun _ => by simp) m ρ)

end Cert.Proof.Ref

end
-- ==== Proof.Values.lean ====
/-
  The two results at the ideal instance, element by element: each is the greatest of the sixteen features that the
  element's indices name, under the precondition.
-/
module

public import proofs.«01_k».proof.Proof.RefRun
public import proofs.«01_k».proof.Proof.Maxima
public import Idealize.ShloMosaic.PureOps.Ideal.Laws
public import Idealize.ShloMosaic.Lib.WordCmp

@[expose] public section

set_option maxRecDepth 16384

noncomputable section

namespace Cert.Proof.Values

open Idealize.ShloMosaic hiding ix1 ix2 ix3 ix4 eq_ix4
open Idealize.ShloMosaic.ValueIdx Cert.Proof.Maxima

abbrev Feat : Shape := ⟨3, ![8, 64, 16384]⟩
abbrev Ind : Shape := ⟨3, ![8, 4096, 16]⟩

/-- The feature that index `k` of output element `(b, ·, y)` names, of feature row `(b, f)`. -/
def named (A : Feat.Idx → EReal) (J : Ind.Idx → BitVec 32) (b : Fin 8) (f : Fin 64) (y : Fin 4096) (k : Fin 16) : EReal :=
  A (ix3 b f (⟨(J (ix3 b y k)).toNat % 16384, Nat.mod_lt _ (by decide)⟩ : Fin 16384))

/-- The mathematical result: the greatest of the sixteen named features. -/
def best (A : Feat.Idx → EReal) (J : Ind.Idx → BitVec 32) (b : Fin 8) (f : Fin 64) (y : Fin 4096) : EReal :=
  (Finset.univ : Finset (Fin 16)).fold max ⊥ (named A J b f y)

/-- A reshape read where the row-major positions agree. -/
theorem reshape_at {α : Type} {s t : Shape} (x : s.Idx → α) (h : s.ShapeCasts t) (j : t.Idx) (i : s.Idx)
    (e : (s.rowMajor i).val = (t.rowMajor j).val) : shapeCast t x h j = x i :=
  congrArg x (Shape.reshapeEquiv_eq_of_rowMajor h e)

/-! ## The kernel's result -/

/-- The running maximum of rows `0, …, n` is at most `c` exactly when each of those rows' picks is. -/
theorem rowMax_le_iff (X : (⟨1, ![16384]⟩ : Shape).Idx → Ideal .f32) (I : (⟨2, ![16, 4096]⟩ : Shape).Idx → BitVec 32) (y : Fin 4096) (c : EReal) :
    ∀ n : Nat, n < 16 → ((rowMax (F := Ideal) X I n y : EReal) ≤ c ↔ ∀ k : Fin 16, k.val ≤ n → (pick (F := Ideal) X (I (ix2 k y)) : EReal) ≤ c)
  | 0, _ => by
    refine ⟨fun h k hk => ?_, fun h => h 0 (Nat.le_refl _)⟩
    obtain rfl : k = 0 := Fin.ext (Nat.le_zero.mp hk)
    exact h
  | n + 1, hn => by
    have e : (⟨(n + 1) % 16, Nat.mod_lt _ (by decide)⟩ : Fin 16) = ⟨n + 1, hn⟩ := Fin.ext (Nat.mod_eq_of_lt hn)
    have ih := rowMax_le_iff X I y c n (by omega)
    show max (rowMax (F := Ideal) X I n y : EReal) (pick (F := Ideal) X (I (ix2 (⟨(n + 1) % 16, Nat.mod_lt _ (by decide)⟩ : Fin 16) y))) ≤ c ↔ _
    rw [max_le_iff, ih, e]
    refine ⟨fun h k hk => ?_, fun h => ⟨fun k hk => h k (by omega), h _ (Nat.le_refl _)⟩⟩
    rcases Nat.lt_or_ge k.val (n + 1) with h1 | h1
    · exact h.1 k (by omega)
    · obtain rfl : k = ⟨n + 1, hn⟩ := Fin.ext (by show k.val = n + 1; omega)
      exact h.2

/-- The running maximum of all sixteen rows is their greatest pick. -/
theorem rowMax_eq (X : (⟨1, ![16384]⟩ : Shape).Idx → Ideal .f32) (I : (⟨2, ![16, 4096]⟩ : Shape).Idx → BitVec 32) (y : Fin 4096) :
    (rowMax (F := Ideal) X I 15 y : EReal) = (Finset.univ : Finset (Fin 16)).fold max ⊥ fun k => (pick (F := Ideal) X (I (ix2 k y)) : EReal) := by
  refine eq_of_forall_ge_iff fun c => ?_
  rw [rowMax_le_iff X I y c 15 (by decide), Finset.fold_max_le]
  exact ⟨fun h => ⟨bot_le, fun k _ => h k (by omega)⟩, fun h k _ => h.2 k (Finset.mem_univ _)⟩

/-- The kernel's result at an element. -/
theorem kernel_at (A : Feat.Idx → Ideal .f32) (J : Ind.Idx → BitVec 32) (h1 : Feat.ShapeCasts ⟨2, ![512, 16384]⟩)
    (h2 : Ind.Transposes [0, 2, 1] ⟨3, ![8, 16, 4096]⟩) (h3 : (⟨2, ![512, 4096]⟩ : Shape).ShapeCasts ⟨3, ![8, 64, 4096]⟩)
    (b : Fin 8) (f : Fin 64) (y : Fin 4096) :
    (shapeCast ⟨3, ![8, 64, 4096]⟩ (maxima (F := Ideal) (shapeCast ⟨2, ![512, 16384]⟩ A h1) (transpose ⟨3, ![8, 16, 4096]⟩ [0, 2, 1] J h2)) h3 (ix3 b f y) : EReal)
      = best A J b f y := by
  have hr : b.val * 64 + f.val < 512 := by omega
  rw [reshape_at _ h3 (ix3 b f y) (ix2 (⟨b.val * 64 + f.val, hr⟩ : Fin 512) y) (by
    rw [Shape.rowMajor_val_two, Shape.rowMajor_val_three]; rfl)]
  refine (rowMax_eq _ _ y).trans ?_
  unfold best
  refine Finset.fold_congr fun k _ => ?_
  have hb : batchOf (⟨b.val * 64 + f.val, hr⟩ : Fin 512) = b := Fin.ext (by show (b.val * 64 + f.val) / 64 = b.val; omega)
  have hJ : idxOf (transpose ⟨3, ![8, 16, 4096]⟩ [0, 2, 1] J h2) (batchOf (⟨b.val * 64 + f.val, hr⟩ : Fin 512)) (ix2 k y) = J (ix3 b y k) := by
    rw [hb]
    show J (h2.src (ix3 b k y)) = _
    refine congrArg J (funext fun a => Fin.ext ?_)
    match a with
    | ⟨0, _⟩ => rfl
    | ⟨1, _⟩ => rfl
    | ⟨2, _⟩ => rfl
  show pick (F := Ideal) (featOf (shapeCast ⟨2, ![512, 16384]⟩ A h1) ⟨b.val * 64 + f.val, hr⟩) (idxOf (transpose ⟨3, ![8, 16, 4096]⟩ [0, 2, 1] J h2) (batchOf (⟨b.val * 64 + f.val, hr⟩ : Fin 512)) (ix2 k y)) = _
  rw [hJ]
  exact reshape_at A h1 _ _ (by rw [Shape.rowMajor_val_two, Shape.rowMajor_val_three]; rfl)

/-! ## The reference's result -/

section Reference

open Cert.ReferenceIdeal Cert.Proof.Ref

variable (A : S8x64x16384.Idx → Ideal .f32) (J : S8x4096x16.Idx → BitVec 32) (hJ : ∀ z, (J z).toNat < 16384)

/-- The output lane and the index row of a position among the sixteen-fold indices. -/
abbrev laneOf (n : Fin 65536) : Fin 4096 := ⟨n.val / 16, by omega⟩
abbrev rowOf (n : Fin 65536) : Fin 16 := ⟨n.val % 16, by omega⟩

omit hJ in
/-- A word below 16384 is not negative. -/
theorem not_negative (w : BitVec 32) (h : w.toNat < 16384) : IntOp.cmpi .slt w 0#32 = 0#1 := by
  rw [WordCmp.cmpi_slt_zero, WordCmp.ofBool_decide_eq_zero_iff]; omega

omit hJ in
/-- A word below 16384 lies between 0 and 16383. -/
theorem within (w : BitVec 32) (h : w.toNat < 16384) : IntOp.andi (IntOp.cmpi .sge w 0#32) (IntOp.cmpi .sle w 16383#32) = 1#1 := by
  have h1 : IntOp.cmpi .sge w 0#32 = 1#1 := by
    rw [WordCmp.cmpi_sge_zero, WordCmp.ofBool_decide_eq_one_iff]; omega
  have h2 : IntOp.cmpi .sle w 16383#32 = 1#1 := by
    rw [WordCmp.cmpi_sle_eq, WordCmp.ofBool_decide_eq_one_iff, WordCmp.toInt_eq_toNat_of_lt_half (by omega)]
    show (w.toNat : Int) ≤ 16383
    omega
  rw [h1, h2]; rfl

include hJ in
/-- The wrapped indices are the indices themselves. -/
theorem wrapped_at (b : Fin 8) (f : Fin 64) (n : Fin 65536) (o : Fin 1) : wrapped J (ix4 b f n o) = J (ix3 b (laneOf n) (rowOf n)) := by
  unfold wrapped
  dsimp only
  rw [reshape_at _ _ (ix4 b f n o) (ix3 b f n) (by
    rw [Shape.rowMajor_val_three, Shape.rowMajor_val_four]
    show (b.val * 64 + f.val) * 65536 + n.val = ((b.val * 64 + f.val) * 65536 + n.val) * 1 + o.val
    omega)]
  have hI : broadcastInDim S8x64x65536 ![0, 1, 2] Facts₀.bcast_S8x1x65536_S8x64x65536_0_1_2 (shapeCast S8x1x65536 J Facts₀.shapeCasts_S8x4096x16_S8x1x65536) (ix3 b f n)
      = J (ix3 b (laneOf n) (rowOf n)) :=
    (congrArg (shapeCast S8x1x65536 J Facts₀.shapeCasts_S8x4096x16_S8x1x65536) (funext fun a => Fin.ext (by
        match a with
        | ⟨0, _⟩ => rfl
        | ⟨1, _⟩ => rfl
        | ⟨2, _⟩ => rfl) : _ = ix3 b (0 : Fin 1) n)).trans
      (reshape_at J _ (ix3 b (0 : Fin 1) n) (ix3 b (laneOf n) (rowOf n)) (by
        rw [Shape.rowMajor_val_three, Shape.rowMajor_val_three]
        show (b.val * 4096 + n.val / 16) * 16 + n.val % 16 = (b.val * 1 + 0) * 65536 + n.val
        omega))
  show Scalar.select (IntOp.cmpi .slt _ 0#32) _ _ = _
  rw [hI, not_negative _ (hJ _)]
  rfl

/-- An `and` folded over a list of ones, from one, is one. -/
theorem foldl_ones {α : Type} (x : α → BitVec 1) (hx : ∀ i, x i = 1#1) : ∀ l : List α, l.foldl (fun r i => IntOp.andi r (x i)) 1#1 = 1#1
  | [] => rfl
  | a :: l => by
    show l.foldl (fun r i => IntOp.andi r (x i)) (IntOp.andi 1#1 (x a)) = 1#1
    rw [hx a]; exact foldl_ones x hx l

include hJ in
/-- Every index lies in the row. -/
theorem inRow_at (j : S8x64x65536.Idx) : inRow (wrapped J) j = 1#1 := by
  unfold inRow
  rw [Host.reduce_eq_foldl]
  refine foldl_ones _ (fun i => ?_) _
  obtain ⟨b, f, n, o, rfl⟩ : ∃ (b : Fin 8) (f : Fin 64) (n : Fin 65536) (o : Fin 1), i = ix4 b f n o := ⟨_, _, _, _, eq_ix4 i⟩
  show IntOp.andi (IntOp.cmpi .sge (wrapped J (ix4 b f n o)) 0#32) (IntOp.cmpi .sle (wrapped J (ix4 b f n o)) 16383#32) = 1#1
  rw [wrapped_at J hJ]
  exact within _ (hJ _)

/-- The gather's dimension numbers. -/
abbrev D : GatherDims S8x64x16384 S8x64x65536x1 S8x64x65536 := gather_S8x64x16384_S8x64x65536x1_S8x64x65536_n_2_01_01_2_3_111

/-- The gather at a position reads its feature row at the position's start index, clamped into the row. -/
theorem gather_at (W : IVec S8x64x65536x1 32) (b : Fin 8) (f : Fin 64) (n : Fin 65536) :
    Host.gather D A W (ix3 b f n)
      = A (ix3 b f (⟨min (W (ix4 b f n (0 : Fin 1))).toInt.toNat 16383, by omega⟩ : Fin 16384)) := by
  refine congrArg A (funext fun a => Fin.ext ?_)
  show D.start (ix3 b f n) W a + D.batchCoord (ix3 b f n) a + D.offCoord (ix3 b f n) a = _
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h3 with rfl | rfl | rfl
  · rw [D.start_batching _ _ _ (show (0 : Fin 3) ∈ [(0 : Fin 3), 1] by decide), D.offCoord_eq_zero _ _ (show (0 : Fin 3) ∉ D.sKept by decide)]
    unfold GatherDims.batchCoord
    rw [dif_pos (show (0 : Fin 3) ∈ D.operandBatchingDims by decide), Nat.zero_add]
    rfl
  · rw [D.start_batching _ _ _ (show (1 : Fin 3) ∈ [(0 : Fin 3), 1] by decide), D.offCoord_eq_zero _ _ (show (1 : Fin 3) ∉ D.sKept by decide)]
    unfold GatherDims.batchCoord
    rw [dif_pos (show (1 : Fin 3) ∈ D.operandBatchingDims by decide), Nat.zero_add]
    rfl
  · rw [D.batchCoord_eq_zero _ _ (show (2 : Fin 3) ∉ [(0 : Fin 3), 1] by decide), D.offCoord_eq_zero _ _ (show (2 : Fin 3) ∉ D.sKept by decide)]
    unfold GatherDims.start
    rw [dif_pos (show (2 : Fin 3) ∈ D.startIndexMap by decide)]
    have e : D.siIdx (ix3 b f n) ⟨List.idxOf (2 : Fin 3) D.startIndexMap, List.idxOf_lt_length_iff.2 (show (2 : Fin 3) ∈ D.startIndexMap by decide)⟩
        = ix4 b f n (0 : Fin 1) := by
      funext c
      refine Fin.ext ?_
      match c with
      | ⟨0, _⟩ => rfl
      | ⟨1, _⟩ => rfl
      | ⟨2, _⟩ => rfl
      | ⟨3, _⟩ => rfl
    rw [e]
    rfl

include hJ in
/-- What is taken at a position is the named feature. -/
theorem taken_at (b : Fin 8) (f : Fin 64) (n : Fin 65536) :
    taken (F := Ideal) A (wrapped J) (ix3 b f n) = named A J b f (laneOf n) (rowOf n) := by
  unfold taken
  show Scalar.select (inRow (wrapped J) (ix3 b f n)) _ _ = _
  rw [inRow_at J hJ]
  show Host.gather D A (wrapped J) (ix3 b f n) = _
  rw [gather_at]
  unfold named
  have h := hJ (ix3 b (laneOf n) (rowOf n))
  refine congrArg A (congrArg (ix3 b f) (Fin.ext ?_))
  show min (wrapped J (ix4 b f n (0 : Fin 1))).toInt.toNat 16383 = (J (ix3 b (laneOf n) (rowOf n))).toNat % 16384
  rw [wrapped_at J hJ, WordCmp.toInt_eq_toNat_of_lt_half (by omega), Nat.mod_eq_of_lt h]
  omega

omit hJ in
/-- The reduction starts from minus infinity. -/
theorem start_bot : (Ideal.ofBits .f32 0xFF800000#32 : EReal) = ⊥ := by
  simp [Ideal.ofBits, Ideal.ieee]

/-- The last axis is the one reduced. -/
theorem reduces_last : S8x64x4096x16.Reduces [3] S8x64x4096 := by decide

/-- The index that the reduction reads for an output element and a place on the last axis. -/
theorem lift_last (b : Fin 8) (f : Fin 64) (y : Fin 4096) (k : Fin 16) : reduces_last.lift (ix3 b f y) k = ix4 b f y k := by
  refine funext fun c => Fin.ext ?_
  match c with
  | ⟨0, _⟩ => rfl
  | ⟨1, _⟩ => rfl
  | ⟨2, _⟩ => rfl
  | ⟨3, _⟩ => rfl

/-- A maximum over the last axis, at an element, is the fold over its sixteen places. -/
theorem reduce_last (x : FVec Ideal S8x64x4096x16 .f32) (e : FVec Ideal S_ .f32) (h : S8x64x4096x16.ReducesTo [3] S8x64x4096) (hu : 0 < S_.numel)
    (b : Fin 8) (f : Fin 64) (y : Fin 4096) :
    Host.reduce (FloatOps.maximumf : Ideal .f32 → Ideal .f32 → Ideal .f32) x e h hu (ix3 b f y)
      = (Finset.univ : Finset (Fin 16)).fold max (e (Shape.Idx.first hu) : EReal) (fun k => (x (ix4 b f y k) : EReal)) := by
  rw [Host.reduce_eq_fold_single FloatOps.maximumf x e h reduces_last hu]
  exact congrArg (fun g : Fin 16 → EReal => (Finset.univ : Finset (Fin 16)).fold max (e (Shape.Idx.first hu) : EReal) g)
    (funext fun k : Fin 16 => congrArg x (lift_last b f y k))

include hJ in
/-- The reference's reduction reads the named feature at each of its sixteen places. -/
theorem reduced_at (b : Fin 8) (f : Fin 64) (y : Fin 4096) (k : Fin 16) :
    shapeCast S8x64x4096x16 (taken (F := Ideal) A (wrapped J)) Facts₀.shapeCasts_S8x64x65536_S8x64x4096x16 (ix4 b f y k) = named A J b f y k := by
  have hn : y.val * 16 + k.val < 65536 := by omega
  have e1 : laneOf ⟨y.val * 16 + k.val, hn⟩ = y := Fin.ext (by show (y.val * 16 + k.val) / 16 = y.val; omega)
  have e2 : rowOf ⟨y.val * 16 + k.val, hn⟩ = k := Fin.ext (by show (y.val * 16 + k.val) % 16 = k.val; omega)
  rw [reshape_at _ _ (ix4 b f y k) (ix3 b f (⟨y.val * 16 + k.val, hn⟩ : Fin 65536)) (by
    rw [Shape.rowMajor_val_three, Shape.rowMajor_val_four]
    show (b.val * 64 + f.val) * 65536 + (y.val * 16 + k.val) = ((b.val * 64 + f.val) * 4096 + y.val) * 16 + k.val
    omega), taken_at A J hJ, e1, e2]

include hJ in
/-- The reference's result at an element. -/
theorem reference_at (b : Fin 8) (f : Fin 64) (y : Fin 4096) : (refVal (F := Ideal) A J (ix3 b f y) : EReal) = best A J b f y := by
  unfold refVal
  rw [reduce_last, funext (reduced_at A J hJ b f y)]
  exact congrArg (fun e : EReal => (Finset.univ : Finset (Fin 16)).fold max e (named A J b f y)) start_bot

end Reference

end Cert.Proof.Values

end
-- ==== Proof.lean ====
/-
  The certificate's theorem. The kernel reshapes the features to rows, transposes the indices, gathers on the
  SparseCores the sixteen named features of every output element and keeps their maximum. Its run is proved once for
  any float values (Proof/KernelRun.lean, and Proof/KernelIdealRun.lean for the same text read at the extended reals);
  both frames and one half of the equality are instances of it. The other half is the reference's run
  (Proof/RefRun.lean). Proof/Values.lean shows that both results are, element by element, the maximum of the sixteen
  named features.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.InRange
public import proofs.«01_k».proof.Proof.KernelRun
public import proofs.«01_k».proof.Proof.KernelIdealRun
public import proofs.«01_k».proof.Proof.RefRun
public import proofs.«01_k».proof.Proof.Values
public import Idealize.ShloMosaic.Lib.Quiescent

@[expose] public section

noncomputable section

namespace Cert.Proof

open Idealize.ShloMosaic hiding ix1 ix2 ix3 ix4 eq_ix3
open Idealize.ShloMosaic.ValueIdx Idealize.SL.Sem

/-- The kernel runs under its precondition, leaves its arguments unchanged and every semaphore at zero. -/
theorem frame_kernel : Cert.quiescent_Kernel := fun m g hpre =>
  (θ_run _ _ _).mono (fun _ h => ⟨fun c => (h.1 c).2, h.2⟩)
    (Cert.Proof.Kernel.run_main (F := Bits) m g fun d z => in_range_lt _ _ _ _ (hpre d) z)

/-- The same of the kernel at the extended reals. -/
theorem frame_kernel_ideal : Cert.quiescent_KernelIdeal := fun m g hpre =>
  (θ_run _ _ _).mono (fun _ h => ⟨fun c => (h.1 c).2, h.2⟩)
    (Cert.Proof.KernelIdeal.run_main (F := Ideal) m g fun d z => in_range_lt _ _ _ _ (hpre d) z)

/-- The reference runs, leaves its arguments unchanged and every semaphore at zero. -/
theorem frame_reference : Cert.quiescent_ReferenceIdeal := fun m g _ =>
  (θ_run _ _ _).mono (fun r h => ⟨fun c => (h c).2, sem_eq_zero_of_no_sems (by decide) r.2⟩)
    (Cert.Proof.Ref.run_reference (F := Ideal) m g)

/-- From the same arguments, the reference's value and the kernel's are one. -/
theorem values_agree (A : FVec Ideal Cert.ReferenceIdeal.S8x64x16384 .f32) (J : IVec Cert.ReferenceIdeal.S8x4096x16 32)
    (hJ : ∀ z, (J z).toNat < 16384) (h1 h2 h3) :
    Cert.Proof.Ref.refVal (F := Ideal) A J
      = shapeCast ⟨3, ![8, 64, 4096]⟩ (Maxima.maxima (shapeCast ⟨2, ![512, 16384]⟩ A h1) (transpose ⟨3, ![8, 16, 4096]⟩ [0, 2, 1] J h2)) h3 := by
  funext z
  rw [eq_ix3 z]
  exact (Values.reference_at A J hJ _ _ _).trans (Values.kernel_at A J h1 h2 h3 _ _ _).symm

/-- The kernel and the reference at the extended reals end with equal results. -/
theorem equal_results : Cert.algebraic_KernelIdeal_ReferenceIdeal := by
  intro m g m' g' hpre hag
  have hlt := fun (d : Dev Cert.KernelIdeal.nD) z => in_range_lt _ _ _ _ (hpre d) z
  refine ⟨fun c => Cert.Proof.KernelIdeal.resVal m c,
    (θ_run _ _ _).mono (fun _ h c => h.1 c) (Cert.Proof.KernelIdeal.run_main (F := Ideal) m g hlt),
    (θ_run _ _ _).mono (fun _ h c => ⟨(h c).1.trans ?_, (h c).2⟩) (Cert.Proof.Ref.run_reference (F := Ideal) m' g')⟩
  rw [(hag c).1, (hag c).2.2.2]
  exact values_agree _ _ (hlt c) _ _ _

theorem claim : Cert.Claim :=
  ⟨Cert.Kernel.Gen.facts, Cert.KernelIdeal.Gen.facts, Cert.ReferenceIdeal.Gen.facts, Cert.Pre_in_range.Gen.facts,
    frame_kernel, frame_kernel_ideal, frame_reference, fun m g _ => frame_reference m g trivial, trivial, equal_results⟩

end Cert.Proof

end
